-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S8192x4096 : Shape := ⟨2, ![8192, 4096]⟩
abbrev S4x256x1024 : Shape := ⟨3, ![4, 256, 1024]⟩
abbrev S4 : Shape := ⟨1, ![4]⟩
abbrev S_ : Shape := ⟨0, ![]⟩
abbrev S1 : Shape := ⟨1, ![1]⟩
abbrev S256x256 : Shape := ⟨2, ![256, 256]⟩
abbrev S256x1024 : Shape := ⟨2, ![256, 1024]⟩
abbrev S1x256x1024 : Shape := ⟨3, ![1, 256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S256x4096, .bf16⟩
  | .hbm, ⟨2, _⟩ => ⟨S8192x4096, .f32⟩
  | .local _ .vmem, ⟨0, _⟩ => ⟨S8192x256, .bf16⟩
  | .local _ .vmem, ⟨1, _⟩ => ⟨S256x4096, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 9 22 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_74 : BitVec 32 := 1#32
  let v137 : BitVec 32 := Scalar.muli v135 c1_i32_74
  let v138 : BitVec 32 := Scalar.addi c0_i32_75 v137
  v138.toNat
def k0_dev2 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_77 : BitVec 32 := 1#32
  let v139 : BitVec 32 := Scalar.muli v96 c1_i32_77
  let v140 : BitVec 32 := Scalar.addi c0_i32_78 v139
  v140.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_82 : BitVec 32 := 1#32
  let v143 : BitVec 32 := Scalar.muli v135 c1_i32_82
  let v144 : BitVec 32 := Scalar.addi c0_i32_83 v143
  v144.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_86 : BitVec 32 := 1#32
  let v147 : BitVec 32 := Scalar.muli v135 c1_i32_86
  let v148 : BitVec 32 := Scalar.addi c0_i32_87 v147
  v148.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_90 : BitVec 32 := 1#32
  let v151 : BitVec 32 := Scalar.muli v96 c1_i32_90
  let v152 : BitVec 32 := Scalar.addi c0_i32_91 v151
  v152.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_94 : BitVec 32 := 1#32
  let v155 : BitVec 32 := Scalar.muli v96 c1_i32_94
  let v156 : BitVec 32 := Scalar.addi c0_i32_95 v155
  v156.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_98 : BitVec 32 := 1#32
  let v159 : BitVec 32 := Scalar.muli v135 c1_i32_98
  let v160 : BitVec 32 := Scalar.addi c0_i32_99 v159
  v160.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_102 : BitVec 32 := 1#32
  let v163 : BitVec 32 := Scalar.muli v135 c1_i32_102
  let v164 : BitVec 32 := Scalar.addi c0_i32_103 v163
  v164.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_106 : BitVec 32 := 1#32
  let v167 : BitVec 32 := Scalar.muli v96 c1_i32_106
  let v168 : BitVec 32 := Scalar.addi c0_i32_107 v167
  v168.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_110 : BitVec 32 := 1#32
  let v171 : BitVec 32 := Scalar.muli v96 c1_i32_110
  let v172 : BitVec 32 := Scalar.addi c0_i32_111 v171
  v172.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c256_i32 : BitVec 32 := 256#32
  let v173 : BitVec 32 := Scalar.muli v58 c256_i32
  let v174 : Index := Scalar.indexCast v173
  let c0 : Index := 0#32
  ![v174.toNat, 0]
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_124 : BitVec 32 := 1#32
  let v186 : BitVec 32 := Scalar.muli v96 c1_i32_124
  let v187 : BitVec 32 := Scalar.addi c0_i32_125 v186
  v187.toNat
def k0_dev12 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_143 : BitVec 32 := 1#32
  let v209 : BitVec 32 := Scalar.muli v135 c1_i32_143
  let v210 : BitVec 32 := Scalar.addi c0_i32_144 v209
  v210.toNat
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_162 : BitVec 32 := 1#32
  let v232 : BitVec 32 := Scalar.muli v96 c1_i32_162
  let v233 : BitVec 32 := Scalar.addi c0_i32_163 v232
  v233.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_181 : BitVec 32 := 1#32
  let v255 : BitVec 32 := Scalar.muli v135 c1_i32_181
  let v256 : BitVec 32 := Scalar.addi c0_i32_182 v255
  v256.toNat
@[reducible] def k0_t1_loop : Scf.Loop 32 :=
  let c0_i32_187 : BitVec 32 := 0#32
  let c30_i32 : BitVec 32 := 30#32
  let v265 : BitVec 32 := Scalar.addi c0_i32_187 c30_i32
  let c1_i32_188 : BitVec 32 := 1#32
  ⟨c0_i32_187, v265, c1_i32_188⟩
def k0_off2 (d0 : Dev nD) (k0_t1 : Fin k0_t1_loop.trips) (c_m1_i32_629 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c0_i32_187 : BitVec 32 := 0#32
  let c1_i32_188 : BitVec 32 := 1#32
  let arg15 : BitVec 32 := Scf.iv c0_i32_187 c1_i32_188 k0_t1
  let c1_i32_628 : BitVec 32 := 1#32
  let v687 : BitVec 32 := Scalar.addi arg15 c1_i32_628
  let v688 : BitVec 32 := Scalar.muli c_m1_i32_629 v687
  let v689 : BitVec 32 := Scalar.addi v58 v688
  let c128_i32_630 : BitVec 32 := 128#32
  let v690 : BitVec 32 := Scalar.addi v689 c128_i32_630
  let c32_i32_631 : BitVec 32 := 32#32
  let v691 : BitVec 32 := Scalar.remsi v690 c32_i32_631
  let c256_i32_632 : BitVec 32 := 256#32
  let v692 : BitVec 32 := Scalar.muli v691 c256_i32_632
  let v693 : Index := Scalar.indexCast v692
  let c0_633 : Index := 0#32
  ![v693.toNat, 0]
def k0_dev15 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_691 : BitVec 32 := 1#32
  let v759 : BitVec 32 := Scalar.muli v135 c1_i32_691
  let v760 : BitVec 32 := Scalar.addi c0_i32_692 v759
  v760.toNat
def k0_dev16 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_700 : BitVec 32 := 1#32
  let v763 : BitVec 32 := Scalar.muli v96 c1_i32_700
  let v764 : BitVec 32 := Scalar.addi c0_i32_701 v763
  v764.toNat
def k0_dev17 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_733 : BitVec 32 := 1#32
  let v797 : BitVec 32 := Scalar.muli v96 c1_i32_733
  let v798 : BitVec 32 := Scalar.addi c0_i32_734 v797
  v798.toNat
def k0_dev18 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_742 : BitVec 32 := 1#32
  let v801 : BitVec 32 := Scalar.muli v135 c1_i32_742
  let v802 : BitVec 32 := Scalar.addi c0_i32_743 v801
  v802.toNat
def k0_dev19 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_775 : BitVec 32 := 1#32
  let v835 : BitVec 32 := Scalar.muli v135 c1_i32_775
  let v836 : BitVec 32 := Scalar.addi c0_i32_776 v835
  v836.toNat
def k0_dev20 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_784 : BitVec 32 := 1#32
  let v839 : BitVec 32 := Scalar.muli v96 c1_i32_784
  let v840 : BitVec 32 := Scalar.addi c0_i32_785 v839
  v840.toNat
def k0_dev21 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_817 : BitVec 32 := 1#32
  let v873 : BitVec 32 := Scalar.muli v96 c1_i32_817
  let v874 : BitVec 32 := Scalar.addi c0_i32_818 v873
  v874.toNat
def k0_dev22 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_826 : BitVec 32 := 1#32
  let v877 : BitVec 32 := Scalar.muli v135 c1_i32_826
  let v878 : BitVec 32 := Scalar.addi c0_i32_827 v877
  v878.toNat
def k0_off3 (d0 : Dev nD) (c_m31_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let v274 : BitVec 32 := Scalar.addi v58 c_m31_i32
  let c128_i32 : BitVec 32 := 128#32
  let v275 : BitVec 32 := Scalar.addi v274 c128_i32
  let c32_i32_200 : BitVec 32 := 32#32
  let v276 : BitVec 32 := Scalar.remsi v275 c32_i32_200
  let c256_i32_201 : BitVec 32 := 256#32
  let v277 : BitVec 32 := Scalar.muli v276 c256_i32_201
  let v278 : Index := Scalar.indexCast v277
  let c0_202 : Index := 0#32
  ![v278.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c_m1_i32 : BitVec 32 := 4294967295#32
  let v303 : BitVec 32 := Scalar.subi v58 c_m1_i32
  let c128_i32_225 : BitVec 32 := 128#32
  let v304 : BitVec 32 := Scalar.addi v303 c128_i32_225
  let c32_i32_226 : BitVec 32 := 32#32
  let v305 : BitVec 32 := Scalar.remsi v304 c32_i32_226
  let c256_i32_227 : BitVec 32 := 256#32
  let v306 : BitVec 32 := Scalar.muli v305 c256_i32_227
  let c0_i32_230 : BitVec 32 := 0#32
  ![v306.toNat, 0]
def k0_dev23 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_240 : BitVec 32 := 1#32
  let v314 : BitVec 32 := Scalar.muli v96 c1_i32_240
  let v315 : BitVec 32 := Scalar.addi c0_i32_241 v314
  v315.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_282 : BitVec 32 := 1#32
  let v361 : BitVec 32 := Scalar.subi v58 c1_i32_282
  let c128_i32_283 : BitVec 32 := 128#32
  let v362 : BitVec 32 := Scalar.addi v361 c128_i32_283
  let c32_i32_284 : BitVec 32 := 32#32
  let v363 : BitVec 32 := Scalar.remsi v362 c32_i32_284
  let c256_i32_285 : BitVec 32 := 256#32
  let v364 : BitVec 32 := Scalar.muli v363 c256_i32_285
  let c2048_i32 : BitVec 32 := 2048#32
  ![v364.toNat, 2048]
def k0_dev24 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_297 : BitVec 32 := 1#32
  let v372 : BitVec 32 := Scalar.muli v135 c1_i32_297
  let v373 : BitVec 32 := Scalar.addi c0_i32_298 v372
  v373.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c_m1_i32_340 : BitVec 32 := 4294967295#32
  let v419 : BitVec 32 := Scalar.subi v58 c_m1_i32_340
  let c128_i32_341 : BitVec 32 := 128#32
  let v420 : BitVec 32 := Scalar.addi v419 c128_i32_341
  let c32_i32_342 : BitVec 32 := 32#32
  let v421 : BitVec 32 := Scalar.remsi v420 c32_i32_342
  let c256_i32_343 : BitVec 32 := 256#32
  let v422 : BitVec 32 := Scalar.muli v421 c256_i32_343
  let c1024_i32 : BitVec 32 := 1024#32
  ![v422.toNat, 1024]
def k0_dev25 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_355 : BitVec 32 := 1#32
  let v430 : BitVec 32 := Scalar.muli v96 c1_i32_355
  let v431 : BitVec 32 := Scalar.addi c0_i32_356 v430
  v431.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_398 : BitVec 32 := 1#32
  let v477 : BitVec 32 := Scalar.subi v58 c1_i32_398
  let c128_i32_399 : BitVec 32 := 128#32
  let v478 : BitVec 32 := Scalar.addi v477 c128_i32_399
  let c32_i32_400 : BitVec 32 := 32#32
  let v479 : BitVec 32 := Scalar.remsi v478 c32_i32_400
  let c256_i32_401 : BitVec 32 := 256#32
  let v480 : BitVec 32 := Scalar.muli v479 c256_i32_401
  let c3072_i32 : BitVec 32 := 3072#32
  ![v480.toNat, 3072]
def k0_dev26 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_413 : BitVec 32 := 1#32
  let v488 : BitVec 32 := Scalar.muli v135 c1_i32_413
  let v489 : BitVec 32 := Scalar.addi c0_i32_414 v488
  v489.toNat
@[reducible] def k0_t2_loop : Scf.Loop 32 :=
  let c0_i32_419 : BitVec 32 := 0#32
  let c30_i32_420 : BitVec 32 := 30#32
  let v498 : BitVec 32 := Scalar.addi c0_i32_419 c30_i32_420
  let c1_i32_421 : BitVec 32 := 1#32
  ⟨c0_i32_419, v498, c1_i32_421⟩
def k0_off8 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c_m1_i32_639 : BitVec 32 := 4294967295#32
  let c0_i32_419 : BitVec 32 := 0#32
  let c1_i32_421 : BitVec 32 := 1#32
  let arg15 : BitVec 32 := Scf.iv c0_i32_419 c1_i32_421 k0_t2
  let c1_i32_638 : BitVec 32 := 1#32
  let v695 : BitVec 32 := Scalar.subi arg15 c1_i32_638
  let v696 : BitVec 32 := Scalar.muli c_m1_i32_639 v695
  let v697 : BitVec 32 := Scalar.addi v58 v696
  let c128_i32_640 : BitVec 32 := 128#32
  let v698 : BitVec 32 := Scalar.addi v697 c128_i32_640
  let c32_i32_641 : BitVec 32 := 32#32
  let v699 : BitVec 32 := Scalar.remsi v698 c32_i32_641
  let c256_i32_642 : BitVec 32 := 256#32
  let v700 : BitVec 32 := Scalar.muli v699 c256_i32_642
  let c0_i32_645 : BitVec 32 := 0#32
  ![v700.toNat, 0]
def k0_dev27 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_668 : BitVec 32 := 1#32
  let v723 : BitVec 32 := Scalar.muli v135 c1_i32_668
  let v724 : BitVec 32 := Scalar.addi c0_i32_669 v723
  v724.toNat
def k0_dev28 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_677 : BitVec 32 := 1#32
  let v727 : BitVec 32 := Scalar.muli v96 c1_i32_677
  let v728 : BitVec 32 := Scalar.addi c0_i32_678 v727
  v728.toNat
def k0_off9 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c_m1_i32_683 : BitVec 32 := 4294967295#32
  let c0_i32_419 : BitVec 32 := 0#32
  let c1_i32_421 : BitVec 32 := 1#32
  let arg15 : BitVec 32 := Scf.iv c0_i32_419 c1_i32_421 k0_t2
  let v737 : BitVec 32 := Scalar.muli c_m1_i32_683 arg15
  let v738 : BitVec 32 := Scalar.addi v58 v737
  let c128_i32_684 : BitVec 32 := 128#32
  let v739 : BitVec 32 := Scalar.addi v738 c128_i32_684
  let c32_i32_685 : BitVec 32 := 32#32
  let v740 : BitVec 32 := Scalar.remsi v739 c32_i32_685
  let c256_i32_686 : BitVec 32 := 256#32
  let v741 : BitVec 32 := Scalar.muli v740 c256_i32_686
  let c0_i32_689 : BitVec 32 := 0#32
  ![v741.toNat, 0]
def k0_off10 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_703 : BitVec 32 := 1#32
  let c0_i32_419 : BitVec 32 := 0#32
  let c1_i32_421 : BitVec 32 := 1#32
  let arg15 : BitVec 32 := Scf.iv c0_i32_419 c1_i32_421 k0_t2
  let c1_i32_702 : BitVec 32 := 1#32
  let v755 : BitVec 32 := Scalar.subi arg15 c1_i32_702
  let v756 : BitVec 32 := Scalar.muli c1_i32_703 v755
  let v757 : BitVec 32 := Scalar.addi v58 v756
  let c128_i32_704 : BitVec 32 := 128#32
  let v758 : BitVec 32 := Scalar.addi v757 c128_i32_704
  let c32_i32_705 : BitVec 32 := 32#32
  let v759 : BitVec 32 := Scalar.remsi v758 c32_i32_705
  let c256_i32_706 : BitVec 32 := 256#32
  let v760 : BitVec 32 := Scalar.muli v759 c256_i32_706
  let c2048_i32_709 : BitVec 32 := 2048#32
  ![v760.toNat, 2048]
def k0_dev29 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_732 : BitVec 32 := 1#32
  let v783 : BitVec 32 := Scalar.muli v96 c1_i32_732
  let v784 : BitVec 32 := Scalar.addi c0_i32_733 v783
  v784.toNat
def k0_dev30 (d0 : Dev nD) : Nat :=
  let c0_i32_742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_741 : BitVec 32 := 1#32
  let v787 : BitVec 32 := Scalar.muli v135 c1_i32_741
  let v788 : BitVec 32 := Scalar.addi c0_i32_742 v787
  v788.toNat
def k0_off11 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_747 : BitVec 32 := 1#32
  let c0_i32_419 : BitVec 32 := 0#32
  let c1_i32_421 : BitVec 32 := 1#32
  let arg15 : BitVec 32 := Scf.iv c0_i32_419 c1_i32_421 k0_t2
  let v797 : BitVec 32 := Scalar.muli c1_i32_747 arg15
  let v798 : BitVec 32 := Scalar.addi v58 v797
  let c128_i32_748 : BitVec 32 := 128#32
  let v799 : BitVec 32 := Scalar.addi v798 c128_i32_748
  let c32_i32_749 : BitVec 32 := 32#32
  let v800 : BitVec 32 := Scalar.remsi v799 c32_i32_749
  let c256_i32_750 : BitVec 32 := 256#32
  let v801 : BitVec 32 := Scalar.muli v800 c256_i32_750
  let c2048_i32_753 : BitVec 32 := 2048#32
  ![v801.toNat, 2048]
def k0_off12 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c_m1_i32_767 : BitVec 32 := 4294967295#32
  let c0_i32_419 : BitVec 32 := 0#32
  let c1_i32_421 : BitVec 32 := 1#32
  let arg15 : BitVec 32 := Scf.iv c0_i32_419 c1_i32_421 k0_t2
  let c1_i32_766 : BitVec 32 := 1#32
  let v815 : BitVec 32 := Scalar.subi arg15 c1_i32_766
  let v816 : BitVec 32 := Scalar.muli c_m1_i32_767 v815
  let v817 : BitVec 32 := Scalar.addi v58 v816
  let c128_i32_768 : BitVec 32 := 128#32
  let v818 : BitVec 32 := Scalar.addi v817 c128_i32_768
  let c32_i32_769 : BitVec 32 := 32#32
  let v819 : BitVec 32 := Scalar.remsi v818 c32_i32_769
  let c256_i32_770 : BitVec 32 := 256#32
  let v820 : BitVec 32 := Scalar.muli v819 c256_i32_770
  let c1024_i32_773 : BitVec 32 := 1024#32
  ![v820.toNat, 1024]
def k0_dev31 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_796 : BitVec 32 := 1#32
  let v843 : BitVec 32 := Scalar.muli v135 c1_i32_796
  let v844 : BitVec 32 := Scalar.addi c0_i32_797 v843
  v844.toNat
def k0_dev32 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_805 : BitVec 32 := 1#32
  let v847 : BitVec 32 := Scalar.muli v96 c1_i32_805
  let v848 : BitVec 32 := Scalar.addi c0_i32_806 v847
  v848.toNat
def k0_off13 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c_m1_i32_811 : BitVec 32 := 4294967295#32
  let c0_i32_419 : BitVec 32 := 0#32
  let c1_i32_421 : BitVec 32 := 1#32
  let arg15 : BitVec 32 := Scf.iv c0_i32_419 c1_i32_421 k0_t2
  let v857 : BitVec 32 := Scalar.muli c_m1_i32_811 arg15
  let v858 : BitVec 32 := Scalar.addi v58 v857
  let c128_i32_812 : BitVec 32 := 128#32
  let v859 : BitVec 32 := Scalar.addi v858 c128_i32_812
  let c32_i32_813 : BitVec 32 := 32#32
  let v860 : BitVec 32 := Scalar.remsi v859 c32_i32_813
  let c256_i32_814 : BitVec 32 := 256#32
  let v861 : BitVec 32 := Scalar.muli v860 c256_i32_814
  let c1024_i32_817 : BitVec 32 := 1024#32
  ![v861.toNat, 1024]
def k0_off14 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_831 : BitVec 32 := 1#32
  let c0_i32_419 : BitVec 32 := 0#32
  let c1_i32_421 : BitVec 32 := 1#32
  let arg15 : BitVec 32 := Scf.iv c0_i32_419 c1_i32_421 k0_t2
  let c1_i32_830 : BitVec 32 := 1#32
  let v875 : BitVec 32 := Scalar.subi arg15 c1_i32_830
  let v876 : BitVec 32 := Scalar.muli c1_i32_831 v875
  let v877 : BitVec 32 := Scalar.addi v58 v876
  let c128_i32_832 : BitVec 32 := 128#32
  let v878 : BitVec 32 := Scalar.addi v877 c128_i32_832
  let c32_i32_833 : BitVec 32 := 32#32
  let v879 : BitVec 32 := Scalar.remsi v878 c32_i32_833
  let c256_i32_834 : BitVec 32 := 256#32
  let v880 : BitVec 32 := Scalar.muli v879 c256_i32_834
  let c3072_i32_837 : BitVec 32 := 3072#32
  ![v880.toNat, 3072]
def k0_dev33 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_24 : BitVec 32 := 1#32
  let v59 : BitVec 32 := Scalar.addi v58 c1_i32_24
  let c32_i32_25 : BitVec 32 := 32#32
  let v60 : BitVec 32 := Scalar.remsi v59 c32_i32_25
  let c16_i32_29 : BitVec 32 := 16#32
  let v63 : BitVec 32 := Scalar.remsi v60 c16_i32_29
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c2_i32_40 : BitVec 32 := 2#32
  let v85 : BitVec 32 := Scalar.remsi v80 c2_i32_40
  let c0_i32_41 : BitVec 32 := 0#32
  let v86 : BitVec 1 := Scalar.cmpi .eq v85 c0_i32_41
  let c4_i32_37 : BitVec 32 := 4#32
  let v81 : BitVec 32 := Scalar.remsi v60 c4_i32_37
  let c3_i32_42 : BitVec 32 := 3#32
  let v87 : BitVec 32 := Scalar.subi c3_i32_42 v81
  let v88 : BitVec 32 := Scalar.select v86 v81 v87
  let c8_i32_43 : BitVec 32 := 8#32
  let v89 : BitVec 32 := Scalar.muli v88 c8_i32_43
  let c16_i32_26 : BitVec 32 := 16#32
  let v61 : BitVec 1 := Scalar.cmpi .slt v60 c16_i32_26
  let c0_i32_27 : BitVec 32 := 0#32
  let c1_i32_28 : BitVec 32 := 1#32
  let v62 : BitVec 32 := Scalar.select v61 c0_i32_27 c1_i32_28
  let c0_i32_38 : BitVec 32 := 0#32
  let v82 : BitVec 1 := Scalar.cmpi .eq v62 c0_i32_38
  let c3_i32_39 : BitVec 32 := 3#32
  let v83 : BitVec 32 := Scalar.subi c3_i32_39 v80
  let v84 : BitVec 32 := Scalar.select v82 v80 v83
  let c2_i32_44 : BitVec 32 := 2#32
  let v90 : BitVec 32 := Scalar.muli v84 c2_i32_44
  let v91 : BitVec 32 := Scalar.addi v89 v90
  let c2_i32_45 : BitVec 32 := 2#32
  let v92 : BitVec 32 := Scalar.remsi v84 c2_i32_45
  let c0_i32_46 : BitVec 32 := 0#32
  let v93 : BitVec 1 := Scalar.cmpi .eq v92 c0_i32_46
  let c1_i32_47 : BitVec 32 := 1#32
  let v94 : BitVec 32 := Scalar.subi c1_i32_47 v62
  let v95 : BitVec 32 := Scalar.select v93 v62 v94
  let v96 : BitVec 32 := Scalar.addi v91 v95
  let c1_i32_860 : BitVec 32 := 1#32
  let v903 : BitVec 32 := Scalar.muli v96 c1_i32_860
  let v904 : BitVec 32 := Scalar.addi c0_i32_861 v903
  v904.toNat
def k0_dev34 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c32_i32_48 : BitVec 32 := 32#32
  let v97 : BitVec 32 := Scalar.addi v58 c32_i32_48
  let c1_i32_49 : BitVec 32 := 1#32
  let v98 : BitVec 32 := Scalar.subi v97 c1_i32_49
  let c32_i32_50 : BitVec 32 := 32#32
  let v99 : BitVec 32 := Scalar.remsi v98 c32_i32_50
  let c16_i32_54 : BitVec 32 := 16#32
  let v102 : BitVec 32 := Scalar.remsi v99 c16_i32_54
  let c0_i32_56 : BitVec 32 := 0#32
  let v104 : BitVec 1 := Scalar.cmpi .sgt v102 c0_i32_56
  let v105 : BitVec 32 := Scalar.extui v104
  let c0_i32_57 : BitVec 32 := 0#32
  let v106 : BitVec 1 := Scalar.cmpi .slt v102 c0_i32_57
  let v107 : BitVec 32 := Scalar.extui v106
  let v108 : BitVec 32 := Scalar.subi v105 v107
  let c4_i32_55 : BitVec 32 := 4#32
  let c0_i32_58 : BitVec 32 := 0#32
  let v109 : BitVec 1 := Scalar.cmpi .sgt c4_i32_55 c0_i32_58
  let v110 : BitVec 32 := Scalar.extui v109
  let c0_i32_59 : BitVec 32 := 0#32
  let v111 : BitVec 1 := Scalar.cmpi .slt c4_i32_55 c0_i32_59
  let v112 : BitVec 32 := Scalar.extui v111
  let v113 : BitVec 32 := Scalar.subi v110 v112
  let v114 : BitVec 1 := Scalar.cmpi .ne v108 v113
  let v115 : BitVec 32 := Scalar.remsi v102 c4_i32_55
  let c0_i32_60 : BitVec 32 := 0#32
  let v116 : BitVec 1 := Scalar.cmpi .ne v115 c0_i32_60
  let v117 : BitVec 1 := Scalar.andi v114 v116
  let v103 : BitVec 32 := Scalar.divsi v102 c4_i32_55
  let c1_i32_61 : BitVec 32 := 1#32
  let v118 : BitVec 32 := Scalar.subi v103 c1_i32_61
  let v119 : BitVec 32 := Scalar.select v117 v118 v103
  let c2_i32_65 : BitVec 32 := 2#32
  let v124 : BitVec 32 := Scalar.remsi v119 c2_i32_65
  let c0_i32_66 : BitVec 32 := 0#32
  let v125 : BitVec 1 := Scalar.cmpi .eq v124 c0_i32_66
  let c4_i32_62 : BitVec 32 := 4#32
  let v120 : BitVec 32 := Scalar.remsi v99 c4_i32_62
  let c3_i32_67 : BitVec 32 := 3#32
  let v126 : BitVec 32 := Scalar.subi c3_i32_67 v120
  let v127 : BitVec 32 := Scalar.select v125 v120 v126
  let c8_i32_68 : BitVec 32 := 8#32
  let v128 : BitVec 32 := Scalar.muli v127 c8_i32_68
  let c16_i32_51 : BitVec 32 := 16#32
  let v100 : BitVec 1 := Scalar.cmpi .slt v99 c16_i32_51
  let c0_i32_52 : BitVec 32 := 0#32
  let c1_i32_53 : BitVec 32 := 1#32
  let v101 : BitVec 32 := Scalar.select v100 c0_i32_52 c1_i32_53
  let c0_i32_63 : BitVec 32 := 0#32
  let v121 : BitVec 1 := Scalar.cmpi .eq v101 c0_i32_63
  let c3_i32_64 : BitVec 32 := 3#32
  let v122 : BitVec 32 := Scalar.subi c3_i32_64 v119
  let v123 : BitVec 32 := Scalar.select v121 v119 v122
  let c2_i32_69 : BitVec 32 := 2#32
  let v129 : BitVec 32 := Scalar.muli v123 c2_i32_69
  let v130 : BitVec 32 := Scalar.addi v128 v129
  let c2_i32_70 : BitVec 32 := 2#32
  let v131 : BitVec 32 := Scalar.remsi v123 c2_i32_70
  let c0_i32_71 : BitVec 32 := 0#32
  let v132 : BitVec 1 := Scalar.cmpi .eq v131 c0_i32_71
  let c1_i32_72 : BitVec 32 := 1#32
  let v133 : BitVec 32 := Scalar.subi c1_i32_72 v101
  let v134 : BitVec 32 := Scalar.select v132 v101 v133
  let v135 : BitVec 32 := Scalar.addi v130 v134
  let c1_i32_869 : BitVec 32 := 1#32
  let v907 : BitVec 32 := Scalar.muli v135 c1_i32_869
  let v908 : BitVec 32 := Scalar.addi c0_i32_870 v907
  v908.toNat
def k0_off15 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let c1_i32_875 : BitVec 32 := 1#32
  let c0_i32_419 : BitVec 32 := 0#32
  let c1_i32_421 : BitVec 32 := 1#32
  let arg15 : BitVec 32 := Scf.iv c0_i32_419 c1_i32_421 k0_t2
  let v917 : BitVec 32 := Scalar.muli c1_i32_875 arg15
  let v918 : BitVec 32 := Scalar.addi v58 v917
  let c128_i32_876 : BitVec 32 := 128#32
  let v919 : BitVec 32 := Scalar.addi v918 c128_i32_876
  let c32_i32_877 : BitVec 32 := 32#32
  let v920 : BitVec 32 := Scalar.remsi v919 c32_i32_877
  let c256_i32_878 : BitVec 32 := 256#32
  let v921 : BitVec 32 := Scalar.muli v920 c256_i32_878
  let c3072_i32_881 : BitVec 32 := 3072#32
  ![v921.toNat, 3072]
def k0_off16 (d0 : Dev nD) (c_m29_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let v507 : BitVec 32 := Scalar.addi v58 c_m29_i32
  let c128_i32_433 : BitVec 32 := 128#32
  let v508 : BitVec 32 := Scalar.addi v507 c128_i32_433
  let c32_i32_434 : BitVec 32 := 32#32
  let v509 : BitVec 32 := Scalar.remsi v508 c32_i32_434
  let c256_i32_435 : BitVec 32 := 256#32
  let v510 : BitVec 32 := Scalar.muli v509 c256_i32_435
  let c0_i32_438 : BitVec 32 := 0#32
  ![v510.toNat, 0]
def k0_off17 (d0 : Dev nD) (c29_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let v545 : BitVec 32 := Scalar.addi v58 c29_i32
  let c128_i32_474 : BitVec 32 := 128#32
  let v546 : BitVec 32 := Scalar.addi v545 c128_i32_474
  let c32_i32_475 : BitVec 32 := 32#32
  let v547 : BitVec 32 := Scalar.remsi v546 c32_i32_475
  let c256_i32_476 : BitVec 32 := 256#32
  let v548 : BitVec 32 := Scalar.muli v547 c256_i32_476
  let c2048_i32_479 : BitVec 32 := 2048#32
  ![v548.toNat, 2048]
def k0_off18 (d0 : Dev nD) (c_m29_i32_516 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let v583 : BitVec 32 := Scalar.addi v58 c_m29_i32_516
  let c128_i32_517 : BitVec 32 := 128#32
  let v584 : BitVec 32 := Scalar.addi v583 c128_i32_517
  let c32_i32_518 : BitVec 32 := 32#32
  let v585 : BitVec 32 := Scalar.remsi v584 c32_i32_518
  let c256_i32_519 : BitVec 32 := 256#32
  let v586 : BitVec 32 := Scalar.muli v585 c256_i32_519
  let c1024_i32_522 : BitVec 32 := 1024#32
  ![v586.toNat, 1024]
def k0_off19 (d0 : Dev nD) (c29_i32_559 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_23 : BitVec 32 := 0#32
  let v57 : BitVec 1 := Scalar.cmpi .eq v42 c0_i32_23
  let c4_i32 : BitVec 32 := 4#32
  let v44 : BitVec 32 := Scalar.muli c4_i32 v37
  let c2_i32_16 : BitVec 32 := 2#32
  let v45 : BitVec 32 := Scalar.remsi v37 c2_i32_16
  let c0_i32_17 : BitVec 32 := 0#32
  let v46 : BitVec 1 := Scalar.cmpi .eq v45 c0_i32_17
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_18 : BitVec 32 := 3#32
  let v47 : BitVec 32 := Scalar.subi c3_i32_18 v19
  let v48 : BitVec 32 := Scalar.select v46 v19 v47
  let v49 : BitVec 32 := Scalar.addi v44 v48
  let c16_i32 : BitVec 32 := 16#32
  let c4_i32_19 : BitVec 32 := 4#32
  let c3_i32 : BitVec 32 := 3#32
  let v43 : BitVec 32 := Scalar.subi c3_i32 v37
  let v50 : BitVec 32 := Scalar.muli c4_i32_19 v43
  let v51 : BitVec 32 := Scalar.addi c16_i32 v50
  let c2_i32_20 : BitVec 32 := 2#32
  let v52 : BitVec 32 := Scalar.remsi v43 c2_i32_20
  let c0_i32_21 : BitVec 32 := 0#32
  let v53 : BitVec 1 := Scalar.cmpi .eq v52 c0_i32_21
  let c3_i32_22 : BitVec 32 := 3#32
  let v54 : BitVec 32 := Scalar.subi c3_i32_22 v19
  let v55 : BitVec 32 := Scalar.select v53 v19 v54
  let v56 : BitVec 32 := Scalar.addi v51 v55
  let v58 : BitVec 32 := Scalar.select v57 v49 v56
  let v621 : BitVec 32 := Scalar.addi v58 c29_i32_559
  let c128_i32_560 : BitVec 32 := 128#32
  let v622 : BitVec 32 := Scalar.addi v621 c128_i32_560
  let c32_i32_561 : BitVec 32 := 32#32
  let v623 : BitVec 32 := Scalar.remsi v622 c32_i32_561
  let c256_i32_562 : BitVec 32 := 256#32
  let v624 : BitVec 32 := Scalar.muli v623 c256_i32_562
  let c3072_i32_565 : BitVec 32 := 3072#32
  ![v624.toNat, 3072]
abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.RingPos.lean ====
/-
# The ring the devices form

The kernel lays the 32 devices on one closed ring (a walk over the 2 × 4 × 4 torus) and runs four rings over
it, two in each direction.  `pos` is a device's place on the ring and `at_` the device at a place; `up i j c`
is the device `j` steps upstream of `c` on ring `i` — the one whose data reaches `c` after `j` transfers.  The
place of that device is also the number of the row segment device `c` works on at step `j` of ring `i`.
-/
module

public import Idealize.ShloMosaic.Lib.Exec

@[expose] public section

namespace Cert.RingPos

open Idealize.ShloMosaic

/-- The place on the ring of device number `c`, by arithmetic on its torus coordinates. -/
def posN (c : ℕ) : ℕ :=
  let z := c / 8
  let y := c % 8 / 2
  let xx := if y % 2 = 0 then c % 2 else 1 - c % 2
  if xx = 0 then 4 * y + (if y % 2 = 0 then z else 3 - z)
  else 16 + 4 * (3 - y) + (if (3 - y) % 2 = 0 then z else 3 - z)

/-- The number of the device at place `p` of the ring. -/
def devN (p : ℕ) : ℕ :=
  let xx := if p < 16 then 0 else 1
  let y0 := p % 16 / 4
  let y := if xx = 0 then y0 else 3 - y0
  let z := if y0 % 2 = 0 then p % 4 else 3 - p % 4
  z * 8 + y * 2 + (if y % 2 = 0 then xx else 1 - xx)

theorem posN_lt : ∀ c : Fin 32, posN c.val < 32 := by decide
theorem devN_lt : ∀ p : Fin 32, devN p.val < 32 := by decide

/-- A device's place. -/
def pos (c : Dev 32) : Fin 32 := ⟨posN c.val, posN_lt c⟩
/-- The device at a place. -/
def at_ (p : Fin 32) : Dev 32 := ⟨devN p.val, devN_lt p⟩

theorem pos_at : ∀ p : Fin 32, pos (at_ p) = p := by decide
theorem at_pos : ∀ c : Fin 32, at_ (pos c) = c := by decide

/-- How far one step upstream moves the place, modulo 32: rings 0 and 1 send to the next place (so upstream is one
    back), rings 2 and 3 to the one before. -/
def stp (i : Fin 4) : ℕ := if i.val < 2 then 31 else 1

/-- The device `j` steps upstream of `c` on ring `i`. -/
def up (i : Fin 4) (j : ℕ) (c : Dev 32) : Dev 32 := at_ ⟨((pos c).val + stp i * j) % 32, Nat.mod_lt _ (by decide)⟩

/-- The row segment device `c` works on at step `j` of ring `i`. -/
def seg (i : Fin 4) (c : Dev 32) (j : ℕ) : Fin 32 := ⟨((pos c).val + stp i * j) % 32, Nat.mod_lt _ (by decide)⟩

theorem pos_up (i : Fin 4) (j : ℕ) (c : Dev 32) : pos (up i j c) = seg i c j := pos_at _

theorem pos_inj {c d : Dev 32} (h : pos c = pos d) : c = d := by
  have := congrArg at_ h
  rwa [at_pos, at_pos] at this

theorem up_zero (i : Fin 4) (c : Dev 32) : up i 0 c = c := by
  apply pos_inj
  rw [pos_up]
  apply Fin.ext
  have := (pos c).isLt
  simp only [seg, Nat.mul_zero, Nat.add_zero]
  exact Nat.mod_eq_of_lt this

theorem seg_up (i : Fin 4) (j k : ℕ) (c : Dev 32) : seg i (up i k c) j = seg i c (k + j) := by
  apply Fin.ext
  have h := congrArg Fin.val (pos_up i k c)
  simp only [seg] at h ⊢
  rw [h, Nat.mod_add_mod, Nat.mul_add, Nat.add_assoc]

theorem up_up (i : Fin 4) (j k : ℕ) (c : Dev 32) : up i j (up i k c) = up i (k + j) c := by
  apply pos_inj; rw [pos_up, pos_up, seg_up]

theorem seg_mod (i : Fin 4) (j : ℕ) (c : Dev 32) : seg i c (j + 32) = seg i c j := by
  apply Fin.ext
  simp only [seg, Nat.mul_add]
  omega

theorem up_mod (i : Fin 4) (j : ℕ) (c : Dev 32) : up i (j + 32) c = up i j c := by
  apply pos_inj; rw [pos_up, pos_up, seg_mod]

theorem up_32 (i : Fin 4) (c : Dev 32) : up i 32 c = c :=
  (up_mod i 0 c).trans (up_zero i c)

/-- The device `c` receives from on ring `i`. -/
abbrev ups (i : Fin 4) (c : Dev 32) : Dev 32 := up i 1 c
/-- The device `c` sends to on ring `i`. -/
abbrev tgt (i : Fin 4) (c : Dev 32) : Dev 32 := up i 31 c

theorem ups_tgt (i : Fin 4) (c : Dev 32) : ups i (tgt i c) = c := (up_up i 1 31 c).trans (up_32 i c)
theorem tgt_ups (i : Fin 4) (c : Dev 32) : tgt i (ups i c) = c := (up_up i 31 1 c).trans (up_32 i c)

/-- The device at the next place and the one before, as the barrier's signals name them. -/
abbrev nxt (c : Dev 32) : Dev 32 := up 2 1 c
abbrev prv (c : Dev 32) : Dev 32 := up 2 31 c

theorem seg_inj (i : Fin 4) (c : Dev 32) {j k : ℕ} (hj : j < 32) (hk : k < 32) (h : seg i c j = seg i c k) : j = k := by
  have h := congrArg Fin.val h
  simp only [seg, stp] at h
  split at h <;> omega

/-- The 32 steps of a ring visit every segment once. -/
theorem seg_surj (i : Fin 4) (c : Dev 32) (s : Fin 32) : ∃ j < 32, seg i c j = s := by
  have hp := (pos c).isLt
  have hs := s.isLt
  by_cases h : i.val < 2
  · refine ⟨((pos c).val + 32 - s.val) % 32, Nat.mod_lt _ (by decide), Fin.ext ?_⟩
    simp only [seg, stp, if_pos h]; omega
  · refine ⟨(s.val + 32 - (pos c).val) % 32, Nat.mod_lt _ (by decide), Fin.ext ?_⟩
    simp only [seg, stp, if_neg h]; omega

end Cert.RingPos
-- ==== Proof.KernelIdeal.Off.lean ====
/-
# The kernel's device and offset chains, in closed form

Every device a signal or transfer names, and every row offset a load or copy starts at, computed by the kernel
from its own number, is a neighbour on the ring and a row segment of it (RingPos.lean).
-/
module

public import proofs.«01_k».proof.Proof.Gen.KernelIdeal
public import proofs.«01_k».proof.Proof.RingPos

@[expose] public section

set_option synthInstance.maxSize 4096
set_option Elab.async false

namespace Cert.RingKernelIdeal

open Cert.KernelIdeal Cert.KernelIdeal.Gen Cert.RingPos
open Idealize.ShloMosaic

theorem dev1_eq (c : Dev nD) : (⟨k0_dev1 c, k0_dev1_lt c⟩ : Dev nD) = prv c :=
  Fin.ext ((by decide +kernel : ∀ c : Dev nD, k0_dev1 c = (prv c).val) c)
theorem dev2_eq (c : Dev nD) : (⟨k0_dev2 c, k0_dev2_lt c⟩ : Dev nD) = nxt c :=
  Fin.ext ((by decide +kernel : ∀ c : Dev nD, k0_dev2 c = (nxt c).val) c)
theorem dev3_eq (c : Dev nD) : (⟨k0_dev3 c, k0_dev3_lt c⟩ : Dev nD) = ups 0 c :=
  Fin.ext ((by decide +kernel : ∀ c : Dev nD, k0_dev3 c = (ups 0 c).val) c)
theorem dev4_eq (c : Dev nD) : (⟨k0_dev4 c, k0_dev4_lt c⟩ : Dev nD) = ups 0 c :=
  Fin.ext ((by decide +kernel : ∀ c : Dev nD, k0_dev4 c = (ups 0 c).val) c)
theorem dev5_eq (c : Dev nD) : (⟨k0_dev5 c, k0_dev5_lt c⟩ : Dev nD) = ups 2 c :=
  Fin.ext ((by decide +kernel : ∀ c : Dev nD, k0_dev5 c = (ups 2 c).val) c)
theorem dev6_eq (c : Dev nD) : (⟨k0_dev6 c, k0_dev6_lt c⟩ : Dev nD) = ups 2 c :=
  Fin.ext ((by decide +kernel : ∀ c : Dev nD, k0_dev6 c = (ups 2 c).val) c)
theorem dev7_eq (c : Dev nD) : (⟨k0_dev7 c, k0_dev7_lt c⟩ : Dev nD) = ups 1 c :=
  Fin.ext ((by decide +kernel : ∀ c : Dev nD, k0_dev7 c = (ups 1 c).val) c)
theorem dev8_eq (c : Dev nD) : (⟨k0_dev8 c, k0_dev8_lt c⟩ : Dev nD) = ups 1 c :=
  Fin.ext ((by decide +kernel : ∀ c : Dev nD, k0_dev8 c = (ups 1 c).val) c)
theorem dev9_eq (c : Dev nD) : (⟨k0_dev9 c, k0_dev9_lt c⟩ : Dev nD) = ups 3 c :=
  Fin.ext ((by decide +kernel : ∀ c : Dev nD, k0_dev9 c = (ups 3 c).val) c)
theorem dev10_eq (c : Dev nD) : (⟨k0_dev10 c, k0_dev10_lt c⟩ : Dev nD) = ups 3 c :=
  Fin.ext ((by decide +kernel : ∀ c : Dev nD, k0_dev10 c = (ups 3 c).val) c)
theorem dev11_eq (c : Dev nD) : (⟨k0_dev11 c, k0_dev11_lt c⟩ : Dev nD) = tgt 0 c :=
  Fin.ext ((by decide +kernel : ∀ c : Dev nD, k0_dev11 c = (tgt 0 c).val) c)
theorem dev12_eq (c : Dev nD) : (⟨k0_dev12 c, k0_dev12_lt c⟩ : Dev nD) = tgt 2 c :=
  Fin.ext ((by decide +kernel : ∀ c : Dev nD, k0_dev12 c = (tgt 2 c).val) c)
theorem dev13_eq (c : Dev nD) : (⟨k0_dev13 c, k0_dev13_lt c⟩ : Dev nD) = tgt 1 c :=
  Fin.ext ((by decide +kernel : ∀ c : Dev nD, k0_dev13 c = (tgt 1 c).val) c)
theorem dev14_eq (c : Dev nD) : (⟨k0_dev14 c, k0_dev14_lt c⟩ : Dev nD) = tgt 3 c :=
  Fin.ext ((by decide +kernel : ∀ c : Dev nD, k0_dev14 c = (tgt 3 c).val) c)
theorem dev15_eq (c : Dev nD) : (⟨k0_dev15 c, k0_dev15_lt c⟩ : Dev nD) = ups 0 c :=
  Fin.ext ((by decide +kernel : ∀ c : Dev nD, k0_dev15 c = (ups 0 c).val) c)
theorem dev16_eq (c : Dev nD) : (⟨k0_dev16 c, k0_dev16_lt c⟩ : Dev nD) = tgt 0 c :=
  Fin.ext ((by decide +kernel : ∀ c : Dev nD, k0_dev16 c = (tgt 0 c).val) c)
theorem dev17_eq (c : Dev nD) : (⟨k0_dev17 c, k0_dev17_lt c⟩ : Dev nD) = ups 2 c :=
  Fin.ext ((by decide +kernel : ∀ c : Dev nD, k0_dev17 c = (ups 2 c).val) c)
theorem dev18_eq (c : Dev nD) : (⟨k0_dev18 c, k0_dev18_lt c⟩ : Dev nD) = tgt 2 c :=
  Fin.ext ((by decide +kernel : ∀ c : Dev nD, k0_dev18 c = (tgt 2 c).val) c)
theorem dev19_eq (c : Dev nD) : (⟨k0_dev19 c, k0_dev19_lt c⟩ : Dev nD) = ups 1 c :=
  Fin.ext ((by decide +kernel : ∀ c : Dev nD, k0_dev19 c = (ups 1 c).val) c)
theorem dev20_eq (c : Dev nD) : (⟨k0_dev20 c, k0_dev20_lt c⟩ : Dev nD) = tgt 1 c :=
  Fin.ext ((by decide +kernel : ∀ c : Dev nD, k0_dev20 c = (tgt 1 c).val) c)
theorem dev21_eq (c : Dev nD) : (⟨k0_dev21 c, k0_dev21_lt c⟩ : Dev nD) = ups 3 c :=
  Fin.ext ((by decide +kernel : ∀ c : Dev nD, k0_dev21 c = (ups 3 c).val) c)
theorem dev22_eq (c : Dev nD) : (⟨k0_dev22 c, k0_dev22_lt c⟩ : Dev nD) = tgt 3 c :=
  Fin.ext ((by decide +kernel : ∀ c : Dev nD, k0_dev22 c = (tgt 3 c).val) c)
theorem dev23_eq (c : Dev nD) : (⟨k0_dev23 c, k0_dev23_lt c⟩ : Dev nD) = tgt 0 c :=
  Fin.ext ((by decide +kernel : ∀ c : Dev nD, k0_dev23 c = (tgt 0 c).val) c)
theorem dev24_eq (c : Dev nD) : (⟨k0_dev24 c, k0_dev24_lt c⟩ : Dev nD) = tgt 2 c :=
  Fin.ext ((by decide +kernel : ∀ c : Dev nD, k0_dev24 c = (tgt 2 c).val) c)
theorem dev25_eq (c : Dev nD) : (⟨k0_dev25 c, k0_dev25_lt c⟩ : Dev nD) = tgt 1 c :=
  Fin.ext ((by decide +kernel : ∀ c : Dev nD, k0_dev25 c = (tgt 1 c).val) c)
theorem dev26_eq (c : Dev nD) : (⟨k0_dev26 c, k0_dev26_lt c⟩ : Dev nD) = tgt 3 c :=
  Fin.ext ((by decide +kernel : ∀ c : Dev nD, k0_dev26 c = (tgt 3 c).val) c)
theorem dev27_eq (c : Dev nD) : (⟨k0_dev27 c, k0_dev27_lt c⟩ : Dev nD) = ups 0 c :=
  Fin.ext ((by decide +kernel : ∀ c : Dev nD, k0_dev27 c = (ups 0 c).val) c)
theorem dev28_eq (c : Dev nD) : (⟨k0_dev28 c, k0_dev28_lt c⟩ : Dev nD) = tgt 0 c :=
  Fin.ext ((by decide +kernel : ∀ c : Dev nD, k0_dev28 c = (tgt 0 c).val) c)
theorem dev29_eq (c : Dev nD) : (⟨k0_dev29 c, k0_dev29_lt c⟩ : Dev nD) = ups 2 c :=
  Fin.ext ((by decide +kernel : ∀ c : Dev nD, k0_dev29 c = (ups 2 c).val) c)
theorem dev30_eq (c : Dev nD) : (⟨k0_dev30 c, k0_dev30_lt c⟩ : Dev nD) = tgt 2 c :=
  Fin.ext ((by decide +kernel : ∀ c : Dev nD, k0_dev30 c = (tgt 2 c).val) c)
theorem dev31_eq (c : Dev nD) : (⟨k0_dev31 c, k0_dev31_lt c⟩ : Dev nD) = ups 1 c :=
  Fin.ext ((by decide +kernel : ∀ c : Dev nD, k0_dev31 c = (ups 1 c).val) c)
theorem dev32_eq (c : Dev nD) : (⟨k0_dev32 c, k0_dev32_lt c⟩ : Dev nD) = tgt 1 c :=
  Fin.ext ((by decide +kernel : ∀ c : Dev nD, k0_dev32 c = (tgt 1 c).val) c)
theorem dev33_eq (c : Dev nD) : (⟨k0_dev33 c, k0_dev33_lt c⟩ : Dev nD) = ups 3 c :=
  Fin.ext ((by decide +kernel : ∀ c : Dev nD, k0_dev33 c = (ups 3 c).val) c)
theorem dev34_eq (c : Dev nD) : (⟨k0_dev34 c, k0_dev34_lt c⟩ : Dev nD) = tgt 3 c :=
  Fin.ext ((by decide +kernel : ∀ c : Dev nD, k0_dev34 c = (tgt 3 c).val) c)

/-! The row segments of `x` read: at step `j` of ring `i`, segment `seg i c j`. -/

theorem seg_zero (i : Fin 4) (c : Dev 32) : seg i c 0 = seg 0 c 0 := rfl
theorem seg_one (c : Dev 32) (j : ℕ) : seg 1 c j = seg 0 c j := rfl
theorem seg_three (c : Dev 32) (j : ℕ) : seg 3 c j = seg 2 c j := rfl

theorem off1_eq : ∀ (c : Dev nD), k0_off1 c = ![256 * (seg 0 c (0)).val, 0] := by decide +kernel
theorem off2_down : ∀ (c : Dev nD) (t : Fin k0_t1_loop.trips), k0_off2 c t 4294967295#32 = ![256 * (seg 0 c (t.val + 1)).val, 0] := by decide +kernel
theorem off2_up : ∀ (c : Dev nD) (t : Fin k0_t1_loop.trips), k0_off2 c t 1#32 = ![256 * (seg 2 c (t.val + 1)).val, 0] := by decide +kernel
theorem off3_down : ∀ (c : Dev nD), k0_off3 c 4294967265#32 = ![256 * (seg 0 c (31)).val, 0] := by decide +kernel
theorem off3_up : ∀ (c : Dev nD), k0_off3 c 31#32 = ![256 * (seg 2 c (31)).val, 0] := by decide +kernel

/-! The output blocks written: copy `k` of ring `i` goes to segment `seg i c (31 + k)`, the ring's columns. -/

theorem off4_eq : ∀ (c : Dev nD), k0_off4 c = ![256 * (seg 0 c (31 + 0)).val, 0] := by decide +kernel
theorem off5_eq : ∀ (c : Dev nD), k0_off5 c = ![256 * (seg 2 c (31 + 0)).val, 2048] := by decide +kernel
theorem off6_eq : ∀ (c : Dev nD), k0_off6 c = ![256 * (seg 1 c (31 + 0)).val, 1024] := by decide +kernel
theorem off7_eq : ∀ (c : Dev nD), k0_off7 c = ![256 * (seg 3 c (31 + 0)).val, 3072] := by decide +kernel
theorem off8_eq : ∀ (c : Dev nD) (t : Fin k0_t2_loop.trips), k0_off8 c t = ![256 * (seg 0 c (31 + t.val)).val, 0] := by decide +kernel
theorem off9_eq : ∀ (c : Dev nD) (t : Fin k0_t2_loop.trips), k0_off9 c t = ![256 * (seg 0 c (31 + (t.val + 1))).val, 0] := by decide +kernel
theorem off10_eq : ∀ (c : Dev nD) (t : Fin k0_t2_loop.trips), k0_off10 c t = ![256 * (seg 2 c (31 + t.val)).val, 2048] := by decide +kernel
theorem off11_eq : ∀ (c : Dev nD) (t : Fin k0_t2_loop.trips), k0_off11 c t = ![256 * (seg 2 c (31 + (t.val + 1))).val, 2048] := by decide +kernel
theorem off12_eq : ∀ (c : Dev nD) (t : Fin k0_t2_loop.trips), k0_off12 c t = ![256 * (seg 1 c (31 + t.val)).val, 1024] := by decide +kernel
theorem off13_eq : ∀ (c : Dev nD) (t : Fin k0_t2_loop.trips), k0_off13 c t = ![256 * (seg 1 c (31 + (t.val + 1))).val, 1024] := by decide +kernel
theorem off14_eq : ∀ (c : Dev nD) (t : Fin k0_t2_loop.trips), k0_off14 c t = ![256 * (seg 3 c (31 + t.val)).val, 3072] := by decide +kernel
theorem off15_eq : ∀ (c : Dev nD) (t : Fin k0_t2_loop.trips), k0_off15 c t = ![256 * (seg 3 c (31 + (t.val + 1))).val, 3072] := by decide +kernel
theorem off16_pre : ∀ (c : Dev nD), k0_off16 c 4294967267#32 = ![256 * (seg 0 c (31 + 30)).val, 0] := by decide +kernel
theorem off16_last : ∀ (c : Dev nD), k0_off16 c 4294967266#32 = ![256 * (seg 0 c (31 + 31)).val, 0] := by decide +kernel
theorem off17_pre : ∀ (c : Dev nD), k0_off17 c 29#32 = ![256 * (seg 2 c (31 + 30)).val, 2048] := by decide +kernel
theorem off17_last : ∀ (c : Dev nD), k0_off17 c 30#32 = ![256 * (seg 2 c (31 + 31)).val, 2048] := by decide +kernel
theorem off18_pre : ∀ (c : Dev nD), k0_off18 c 4294967267#32 = ![256 * (seg 1 c (31 + 30)).val, 1024] := by decide +kernel
theorem off18_last : ∀ (c : Dev nD), k0_off18 c 4294967266#32 = ![256 * (seg 1 c (31 + 31)).val, 1024] := by decide +kernel
theorem off19_pre : ∀ (c : Dev nD), k0_off19 c 29#32 = ![256 * (seg 3 c (31 + 30)).val, 3072] := by decide +kernel
theorem off19_last : ∀ (c : Dev nD), k0_off19 c 30#32 = ![256 * (seg 3 c (31 + 31)).val, 3072] := by decide +kernel

end Cert.RingKernelIdeal
-- ==== Proof.KernelIdeal.Cells.lean ====
/-
# The cells, the buffers and what they hold

The kernel's semaphores as one family of 29 cells per device, the slabs of its five scratch buffers and the
blocks of its result as memrefs with a symbolic ring, and the values every slab and block holds round by round.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Off
public import Idealize.ShloMosaic.Lib.Pipeline.Launch
public import Idealize.ShloMosaic.Lib.Pipeline.SiteBlocks
public import Idealize.ShloMosaic.Lib.Pipeline.Kit
public import Idealize.ShloMosaic.Lib.Tactic

@[expose] public section

set_option backward.proofsInPublic true

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

/-- The barrier semaphore. -/
abbrev barS : Sem sig := (SemArray.scalar (sig.barrier 0 rfl) : Sems sig S_).sem

/-- The credit, receive, send and copy semaphores of ring `i`; `ph` is false in the reduce-scatter, true in the
    all-gather. -/
def crS (ph : Bool) (i : Fin 4) : Sem sig := ⟨(if ph then 4 else 0) + i.val, by show _ < 9; split <;> omega⟩
def rvS (ph : Bool) (i : Fin 4) : DmaSem sig := ⟨(if ph then 14 else 6) + i.val, by show _ < 22; split <;> omega⟩
def sdS (ph : Bool) (i : Fin 4) : DmaSem sig := ⟨(if ph then 10 else 2) + i.val, by show _ < 22; split <;> omega⟩
def cpS (i : Fin 4) : DmaSem sig := ⟨18 + i.val, by show _ < 22; omega⟩

/-- A device's cells: the barrier's, and per ring credit, receive and send cells of both phases and the copy cell. -/
inductive K where
  | bar
  | cr (ph : Bool) (i : Fin 4)
  | rv (ph : Bool) (i : Fin 4)
  | sd (ph : Bool) (i : Fin 4)
  | cp (i : Fin 4)
deriving DecidableEq

/-- The cells in a row. -/
def K.equiv : K ≃ (Unit ⊕ (Bool × Fin 4) ⊕ (Bool × Fin 4) ⊕ (Bool × Fin 4) ⊕ Fin 4) where
  toFun
    | .bar => .inl ()
    | .cr ph i => .inr (.inl (ph, i))
    | .rv ph i => .inr (.inr (.inl (ph, i)))
    | .sd ph i => .inr (.inr (.inr (.inl (ph, i))))
    | .cp i => .inr (.inr (.inr (.inr i)))
  invFun
    | .inl () => .bar
    | .inr (.inl (ph, i)) => .cr ph i
    | .inr (.inr (.inl (ph, i))) => .rv ph i
    | .inr (.inr (.inr (.inl (ph, i)))) => .sd ph i
    | .inr (.inr (.inr (.inr i))) => .cp i
  left_inv k := by cases k <;> rfl
  right_inv k := by rcases k with ⟨⟩ | ⟨_, _⟩ | ⟨_, _⟩ | ⟨_, _⟩ | _ <;> rfl

instance : Fintype K := Fintype.ofEquiv _ K.equiv.symm

def csem : K → SemLoc sig
  | .bar => .reg barS
  | .cr ph i => .reg (crS ph i)
  | .rv ph i => .dma (rvS ph i)
  | .sd ph i => .dma (sdS ph i)
  | .cp i => .dma (cpS i)

/-- Which cell a semaphore is. -/
def dec : SemLoc sig → Option K
  | .reg s => if h : s.val < 8 then some (.cr (decide (4 ≤ s.val)) ⟨s.val % 4, Nat.mod_lt _ (by decide)⟩) else some .bar
  | .dma s =>
    if s.val < 2 then none
    else
      let i : Fin 4 := ⟨(s.val - 2) % 4, Nat.mod_lt _ (by decide)⟩
      if s.val < 6 then some (.sd false i) else if s.val < 10 then some (.rv false i) else if s.val < 14 then some (.sd true i)
      else if s.val < 18 then some (.rv true i) else some (.cp i)

theorem dec_csem (k : K) : dec (csem k) = some k := by
  revert k; decide

theorem csem_inj : Function.Injective csem := fun a b h => by
  have := congrArg dec h
  rw [dec_csem, dec_csem] at this
  exact Option.some.inj this

abbrev cell (c : Dev nD) (k : K) : GSem nD τ sig := ((c : Thread nD τ), csem k)

theorem cell_inj {c c' : Dev nD} {k k' : K} (h : cell c k = cell c' k') : c = c' ∧ k = k' := by
  have h1 : (c.tc : Thread nD τ) = c'.tc := congrArg Prod.fst h
  have h2 : csem k = csem k' := congrArg Prod.snd h
  exact ⟨congrArg Prod.fst h1, csem_inj h2⟩

/-! ## Slabs and blocks -/

theorem slab_inb (i : Fin 4) : ∀ a, (![i.val, 0, 0] : Fin 3 → ℕ) a + S1x256x1024.size a ≤ S4x256x1024.size a := by
  revert i; decide

/-- Slab `i` of a scratch buffer, as its loads and stores name it. -/
abbrev slabR (i : Fin 4) : Rect S4x256x1024 := Rect.unit (s := S4x256x1024) ![i.val, 0, 0] S1x256x1024.size (slab_inb i)

/-- Slab `i` as its transfers name it. -/
abbrev slab {e : EltTy} (M : Memref sig .tc .vmem S4x256x1024 e) (i : Fin 4) : Memref sig .tc .vmem S256x1024 e :=
  (M.slice (slabR i) (fun _ => rfl)).squeeze S256x1024 squeezes_S1x256x1024_S256x1024

/-- The scratch buffers: what is sent and what is received in each phase, and the staging buffer of the result. -/
abbrev sndM : Bool → Memref sig .tc .vmem S4x256x1024 .bf16
  | false => Memref.whole cc0_scratch0
  | true => Memref.whole cc0_scratch2
abbrev rcvM : Bool → Memref sig .tc .vmem S4x256x1024 .bf16
  | false => Memref.whole cc0_scratch1
  | true => Memref.whole cc0_scratch3
abbrev stgM : Memref sig .tc .vmem S4x256x1024 .f32 := Memref.whole cc0_scratch4
abbrev xM : Memref sig .tc .vmem S8192x256 .bf16 := Memref.whole cc0_stg0_0
abbrev wM : Memref sig .tc .vmem S256x4096 .bf16 := Memref.whole cc0_stg1_0
abbrev outM : Memref sig .tc .hbm S8192x4096 .f32 := Memref.whole main_v1

theorem out_inb (s : Fin 32) (i : Fin 4) :
    ∀ a, (![256 * s.val, 1024 * i.val] : Fin 2 → ℕ) a + S256x1024.size a ≤ S8192x4096.size a := by
  revert s i; decide

/-- The block of the result in row segment `s` and ring `i`'s columns. -/
abbrev outB (s : Fin 32) (i : Fin 4) : Memref sig .tc .hbm S256x1024 .f32 :=
  outM.slice (Rect.unit (s := S8192x4096) ![256 * s.val, 1024 * i.val] S256x1024.size (out_inb s i)) (fun _ => rfl)

/-- A transfer's and a copy's credit. -/
abbrev N : ℕ := (slab (rcvM false) 0).view.dmaCredit
abbrev NO : ℕ := (outB 0 0).view.dmaCredit

theorem N_pos : 0 < N := View.dmaCredit_pos _ (by decide)
theorem NO_pos : 0 < NO := View.dmaCredit_pos _ (by decide)

theorem slab_credit (ph : Bool) (i : Fin 4) : (slab (rcvM ph) i).view.dmaCredit = N := by
  cases ph <;> rfl
theorem outB_credit (s : Fin 32) (i : Fin 4) : (outB s i).view.dmaCredit = NO := rfl

/-! ## Values -/

theorem xrow_inb (s : Fin 32) : ∀ a, (![256 * s.val, 0] : Fin 2 → ℕ) a + S256x256.size a ≤ S8192x256.size a := by
  revert s; decide
theorem wcol_inb (i : Fin 4) : ∀ a, (![0, 1024 * i.val] : Fin 2 → ℕ) a + S256x1024.size a ≤ S256x4096.size a := by
  revert i; decide

section Values

-- what every device's two staged operands hold
variable (X : Dev nD → (cc0_stg0_0 : Ref sig .tc).ty.Contents (Elt F)) (W : Dev nD → (cc0_stg1_0 : Ref sig .tc).ty.Contents (Elt F))

/-- Row segment `s` of device `c`'s columns of `x`, and ring `i`'s columns of its rows of `w`. -/
def xrow (c : Dev nD) (s : Fin 32) : Vec F S256x256 .bf16 :=
  xM.view.readAt (Elt F) (Rect.unit (s := S8192x256) ![256 * s.val, 0] S256x256.size (xrow_inb s)).toLoadRect (X c)
def wcol (c : Dev nD) (i : Fin 4) : Vec F S256x1024 .bf16 :=
  wM.view.readAt (Elt F) (Rect.unit (s := S256x4096) ![0, 1024 * i.val] S256x1024.size (wcol_inb i)).toLoadRect (W c)

/-- Device `c`'s contribution to block (`s`, `i`) of the result. -/
def part (c : Dev nD) (s : Fin 32) (i : Fin 4) : FVec F S256x1024 .f32 := k0_pay1 (xrow X c s) (wcol W c i)

/-- A value down to what a transfer carries, and a carried value with a contribution added. -/
def down (p : FVec F S256x1024 .f32) : Vec F S256x1024 .bf16 := truncf .bf16 p bitsLt_bf16_f32
def wide (u : Vec F S256x1024 .bf16) : FVec F S256x1024 .f32 := extf .f32 u bitsLt_bf16_f32
def addTo (u : Vec F S256x1024 .bf16) (p : FVec F S256x1024 .f32) : FVec F S256x1024 .f32 := addf (wide u) p

/-- What device `c` sends at round `k` of the reduce-scatter on ring `i`. -/
def rsSent (i : Fin 4) : ℕ → Dev nD → Vec F S256x1024 .bf16
  | 0, c => down (part X W c (seg i c 0) i)
  | k + 1, c => down (addTo (rsSent i k (ups i c)) (part X W c (seg i c (k + 1)) i))

/-- The finished block device `c` makes on ring `i`. -/
def fin (c : Dev nD) (i : Fin 4) : FVec F S256x1024 .f32 :=
  maximumf (addTo (rsSent X W i 30 (ups i c)) (part X W c (seg i c 31) i)) (broadcast S256x1024 (Scalar.ofBits .f32 0x00000000#32))

/-- What device `c` sends at round `k` of the all-gather on ring `i`. -/
def agSent (i : Fin 4) : ℕ → Dev nD → Vec F S256x1024 .bf16
  | 0, c => down (fin X W c i)
  | k + 1, c => agSent i k (ups i c)

def sent : Bool → Fin 4 → ℕ → Dev nD → Vec F S256x1024 .bf16
  | false => rsSent X W
  | true => agSent X W

/-- What device `c` copies `k`-th to the result on ring `i`, into segment `seg i c (31 + k)`. -/
def outVal (i : Fin 4) : ℕ → Dev nD → FVec F S256x1024 .f32
  | 0, c => fin X W c i
  | k + 1, c => wide (agSent X W i k (ups i c))

end Values

/-! ## Holdings -/

/-- Slab `i` of device `c`'s buffer `M` holding `v`; holding anything. -/
def slabPts {e : EltTy} (M : Memref sig .tc .vmem S4x256x1024 e) (i : Fin 4) (c : Dev nD) (v : S256x1024.Idx → Elt F e) : sProp 𝕄 :=
  iprop(∃ f : Buf (Elt F) ((slab M i).view.loc (c : Thread nD τ)), ⌜(slab M i).view.read (Elt F) f = v⌝
    ∗ ((slab M i).view.loc (c : Thread nD τ) ↦[(slab M i).view.set]{fullShare} f))
def slabAny {e : EltTy} (M : Memref sig .tc .vmem S4x256x1024 e) (i : Fin 4) (c : Dev nD) : sProp 𝕄 :=
  iprop(∃ f : Buf (Elt F) ((slab M i).view.loc (c : Thread nD τ)),
    ((slab M i).view.loc (c : Thread nD τ) ↦[(slab M i).view.set]{fullShare} f))
/-- Block (`s`, `i`) of device `c`'s result holding `v`; holding anything. -/
def outPts (s : Fin 32) (i : Fin 4) (c : Dev nD) (v : S256x1024.Idx → Elt F .f32) : sProp 𝕄 :=
  iprop(∃ f : Buf (Elt F) ((outB s i).view.loc (c : Thread nD τ)), ⌜(outB s i).view.read (Elt F) f = v⌝
    ∗ ((outB s i).view.loc (c : Thread nD τ) ↦[(outB s i).view.set]{fullShare} f))
def outAny (s : Fin 32) (i : Fin 4) (c : Dev nD) : sProp 𝕄 :=
  iprop(∃ f : Buf (Elt F) ((outB s i).view.loc (c : Thread nD τ)),
    ((outB s i).view.loc (c : Thread nD τ) ↦[(outB s i).view.set]{fullShare} f))

omit [FloatOps F] in
instance slabPts_storable {e : EltTy} (M : Memref sig .tc .vmem S4x256x1024 e) (i c v) :
    BI.Storable (upEmb : UEmb _ 𝕄) (slabPts (F := F) M i c v) := by unfold slabPts; infer_instance
omit [FloatOps F] in
instance slabAny_storable {e : EltTy} (M : Memref sig .tc .vmem S4x256x1024 e) (i c) :
    BI.Storable (upEmb : UEmb _ 𝕄) (slabAny (F := F) M i c) := by unfold slabAny; infer_instance
omit [FloatOps F] in
instance outPts_storable (s i c v) : BI.Storable (upEmb : UEmb _ 𝕄) (outPts (F := F) s i c v) := by unfold outPts; infer_instance

omit [FloatOps F] in
theorem slabPts_any {e : EltTy} (M : Memref sig .tc .vmem S4x256x1024 e) (i c v) : slabPts (F := F) M i c v ⊢ slabAny M i c := by
  unfold slabPts slabAny
  iintro ⟨%f, -, H⟩; iexists f; iexact H

end Cert.RingKernelIdeal
-- ==== Proof.KernelIdeal.Sched.lean ====
/-
# The schedule of the cells

Round `k` of a phase moves one block one step round each ring.  Cell by cell, at device `c` on ring `i`:

* credit cell: its target signals one unit per round, handing over its receive slab and that it stands at that
  round of its receive cell; `c` waits for it before sending;
* receive cell: its upstream device's transfer credits it, handing over the receive slab with the upstream value of
  the round, and that the upstream device has passed the round of its credit cell;
* send cell: `c`'s own transfer credits it, handing the send slab back;
* copy cell: `c`'s own copy to the result credits it, handing back the staging slab and the block with its value;
* barrier cell: both ring neighbours signal one unit each, handing over nothing.

Every unit a device owes another has a number: `2 + 2 q` for the `q`-th credit and `3 + 2 q` for the `q`-th
transfer, in the order in which the kernel goes through them; a device waits at a number only owing larger ones.
-/
module

public import proofs.«01_k».proof.Proof.KernelIdeal.Cells

@[expose] public section

set_option backward.proofsInPublic true

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-! ## The schedule -/

/-- How many rounds a cell has. -/
def roundsOf : K → ℕ
  | .bar => 1
  | .cp _ => 32
  | _ => 31

/-- The duties of a round: two at the barrier, one elsewhere. -/
def dutiesOf (k : K) (r : ℕ) : Finset Bool :=
  if r < roundsOf k then (match k with | .bar => Finset.univ | _ => {false}) else ∅

def amtOf : K → ℕ
  | .bar => 1
  | .cr _ _ => 1
  | .rv _ _ => N
  | .sd _ _ => N
  | .cp _ => NO

theorem amtOf_pos (k : K) : 0 < amtOf k := by
  cases k
  · exact Nat.one_pos
  · exact Nat.one_pos
  · exact N_pos
  · exact N_pos
  · exact NO_pos

/-- What round `r` of cell `k` of device `c` hands its waiter. -/
def payOf (c : Dev nD) : K → ℕ → sProp 𝕄
  | .bar, _ => iprop(emp)
  | .cr ph i, r => iprop(slabAny (rcvM ph) i (tgt i c) ∗ reached ER (cell (tgt i c) (.rv ph i)) r)
  | .rv ph i, r => iprop(slabPts (rcvM ph) i c (sent X W ph i r (ups i c)) ∗ reached ER (cell (ups i c) (.cr ph i)) (r + 1))
  | .sd ph i, _ => slabAny (sndM ph) i c
  | .cp i, r => iprop(slabAny stgM i c ∗ outPts (seg i c (31 + r)) i c (outVal X W i r c))

instance payOf_storable (c : Dev nD) (k : K) (r : ℕ) : BI.Storable (upEmb : UEmb _ 𝕄) (payOf X W c k r) := by
  cases k <;> (unfold payOf; infer_instance)

/-- A payload where there is a cell, nothing elsewhere. -/
def payAt (c : Dev nD) (r : ℕ) : Option K → sProp 𝕄
  | none => iprop(emp)
  | some k => payOf X W c k r

instance payAt_storable (c : Dev nD) (r : ℕ) (o : Option K) : BI.Storable (upEmb : UEmb _ 𝕄) (payAt X W c r o) := by
  cases o <;> (unfold payAt; infer_instance)

def amtAt : Option K → ℕ
  | none => 1
  | some k => amtOf k

def dutiesAt (r : ℕ) : Option K → Finset Bool
  | none => ∅
  | some k => dutiesOf k r

def Rd : Schedule (GSem nD τ sig) Bool 𝕄 where
  duties g r := if g.1.2 = .tc then dutiesAt r (dec g.2) else ∅
  unitless _ := False
  amount g _ _ := amtAt (dec g.2)
  payload g r _ := payAt X W g.1.1 r (dec g.2)
  amount_pos g _ _ _ := by
    cases h : dec g.2 with
    | none => exact Nat.one_pos
    | some k => exact amtOf_pos k

instance Rd_payload_storable (g : GSem nD τ sig) (r : ℕ) (d : Bool) :
    BI.Storable (upEmb : UEmb _ 𝕄) ((Rd (F := F) X W).payload g r d) := payAt_storable X W g.1.1 r (dec g.2)

section Tables
variable (c : Dev nD) (k : K)

theorem duties_eq (r : ℕ) : (Rd (F := F) X W).duties (cell c k) r = dutiesOf k r := by
  dsimp only [Rd]; rw [if_pos rfl, dec_csem]; rfl
theorem amount_eq (r : ℕ) (d : Bool) : (Rd (F := F) X W).amount (cell c k) r d = amtOf k := by
  dsimp only [Rd]; rw [dec_csem]; rfl
theorem payload_eq (r : ℕ) (d : Bool) : (Rd (F := F) X W).payload (cell c k) r d = payOf X W c k r := by
  dsimp only [Rd]; rw [dec_csem]; rfl

variable {k}

theorem dutiesOf_eq (hk : k ≠ .bar) {r : ℕ} (hr : r < roundsOf k) : dutiesOf k r = {false} := by
  unfold dutiesOf
  rw [if_pos hr]
  cases k with
  | bar => exact absurd rfl hk
  | cr ph i => rfl
  | rv ph i => rfl
  | sd ph i => rfl
  | cp i => rfl
theorem mem_duties (hk : k ≠ .bar) {r : ℕ} (hr : r < roundsOf k) : false ∈ (Rd (F := F) X W).duties (cell c k) r := by
  rw [duties_eq, dutiesOf_eq hk hr]; exact Finset.mem_singleton_self _
theorem mem_duties_bar (d : Bool) : d ∈ (Rd (F := F) X W).duties (cell c .bar) 0 := by
  rw [duties_eq]; exact Finset.mem_univ d
theorem expect_eq (hk : k ≠ .bar) {r : ℕ} (hr : r < roundsOf k) : (Rd (F := F) X W).expect (cell c k) r = amtOf k := by
  unfold Schedule.expect Schedule.amountOf
  rw [duties_eq, dutiesOf_eq hk hr, Finset.sum_singleton, amount_eq]
theorem expect_bar : (Rd (F := F) X W).expect (cell c .bar) 0 = 2 := by
  unfold Schedule.expect Schedule.amountOf
  rw [duties_eq, Finset.sum_congr rfl fun d _ => amount_eq X W c .bar 0 d, Finset.sum_const]; rfl
theorem rest_eq (hk : k ≠ .bar) {r : ℕ} (hr : r < roundsOf k) :
    bigSep ((Rd (F := F) X W).duties (cell c k) r \ ∅) (fun d => (Rd (F := F) X W).payload (cell c k) r d) = payOf X W c k r := by
  rw [Finset.sdiff_empty, duties_eq, dutiesOf_eq hk hr, bigSep_singleton, payload_eq]
theorem duties_later {r : ℕ} (hr : roundsOf k ≤ r) : (Rd (F := F) X W).duties (cell c k) r = ∅ := by
  rw [duties_eq]; unfold dutiesOf; exact if_neg (by omega)

end Tables

/-! ## The numbers of the units owed -/

/-- The rings in the order the kernel goes through them: 0, 2, 1, 3. -/
def ringAt (p : Fin 4) : Fin 4 := match p with | 0 => 0 | 1 => 2 | 2 => 1 | 3 => 3
theorem ringAt_ringAt : ∀ p, ringAt (ringAt p) = p := by decide

def qph (q : ℕ) : Bool := decide (124 ≤ q)
def qrg (q : ℕ) : Fin 4 := ringAt ⟨q % 4, Nat.mod_lt _ (by decide)⟩
def qk (q : ℕ) : ℕ := q / 4 % 31
/-- The number of round `k` of ring `i` in phase `ph`. -/
def Q (ph : Bool) (i : Fin 4) (k : ℕ) : ℕ := 4 * (k + if ph then 31 else 0) + (ringAt i).val

theorem Q_lt (ph : Bool) (i : Fin 4) {k : ℕ} (hk : k < 31) : Q ph i k < 248 := by
  have := (ringAt i).isLt; unfold Q; split <;> omega
theorem qph_Q (ph : Bool) (i : Fin 4) {k : ℕ} (hk : k < 31) : qph (Q ph i k) = ph := by
  have := (ringAt i).isLt
  unfold qph Q
  cases ph
  · simp only [Bool.false_eq_true, if_false]; exact decide_eq_false (by omega)
  · simp only [if_true]; exact decide_eq_true (by omega)
theorem qrg_Q (ph : Bool) (i : Fin 4) (k : ℕ) : qrg (Q ph i k) = i := by
  have := (ringAt i).isLt
  unfold qrg Q
  rw [show (⟨(4 * (k + if ph then 31 else 0) + (ringAt i).val) % 4, Nat.mod_lt _ (by decide)⟩ : Fin 4) = ringAt i from
    Fin.ext (by simp only []; omega), ringAt_ringAt]
theorem qk_Q (ph : Bool) (i : Fin 4) {k : ℕ} (hk : k < 31) : qk (Q ph i k) = k := by
  have := (ringAt i).isLt
  unfold qk Q
  split <;> omega

def crOwed (c : Dev nD) (q : ℕ) : CellTallies nD τ sig ℕ := tallyAt (cell (ups (qrg q) c) (.cr (qph q) (qrg q))) (2 + 2 * q) 1
def rvOwed (c : Dev nD) (q : ℕ) : CellTallies nD τ sig ℕ := tallyAt (cell (tgt (qrg q) c) (.rv (qph q) (qrg q))) (3 + 2 * q) N

/-- What device `c` owes when the credits of `S` and the transfers from `b` on are still to come. -/
def Owed (c : Dev nD) (S : Finset ℕ) (b : ℕ) : CellTallies nD τ sig ℕ :=
  (∑ q ∈ S, crOwed c q) + ∑ q ∈ Finset.Ico b 248, rvOwed c q

theorem crOwed_Q (c : Dev nD) (ph : Bool) (i : Fin 4) {k : ℕ} (hk : k < 31) :
    crOwed c (Q ph i k) = tallyAt (cell (ups i c) (.cr ph i)) (2 + 2 * Q ph i k) 1 := by
  unfold crOwed; rw [qph_Q ph i hk, qrg_Q]
theorem rvOwed_Q (c : Dev nD) (ph : Bool) (i : Fin 4) {k : ℕ} (hk : k < 31) :
    rvOwed c (Q ph i k) = tallyAt (cell (tgt i c) (.rv ph i)) (3 + 2 * Q ph i k) N := by
  unfold rvOwed; rw [qph_Q ph i hk, qrg_Q]

theorem Owed_signal (c : Dev nD) {S S' : Finset ℕ} (b : ℕ) {q : ℕ} (h : S = insert q S') (hn : q ∉ S') :
    Owed c S b = Owed c S' b + crOwed c q := by
  subst h; unfold Owed
  rw [Finset.sum_insert hn]; abel

theorem Owed_send (c : Dev nD) (S : Finset ℕ) {b : ℕ} (hb : b < 248) : Owed c S b = Owed c S (b + 1) + rvOwed c b := by
  unfold Owed
  rw [show Finset.Ico b 248 = insert b (Finset.Ico (b + 1) 248) by ext x; simp only [Finset.mem_Ico, Finset.mem_insert]; omega,
    Finset.sum_insert (by rw [Finset.mem_Ico]; omega)]
  abel

theorem Owed_end (c : Dev nD) : Owed c ∅ 248 = 0 := by
  unfold Owed; rw [Finset.sum_empty, Finset.Ico_self, Finset.sum_empty, add_zero]

theorem sum_pos_mem {S : Finset ℕ} {D : ℕ → CellTallies nD τ sig ℕ} {g : GSem nD τ sig} {j : ℕ} (h : 0 < (∑ q ∈ S, D q) g j) :
    ∃ q ∈ S, 0 < D q g j := by
  rw [Finset.sum_apply, Finsupp.finsetSum_apply] at h
  by_contra hn
  push Not at hn
  rw [Finset.sum_eq_zero fun q hq => Nat.le_zero.mp (hn q hq)] at h
  exact Nat.lt_irrefl 0 h

theorem tallyAt_pos_eq {g g' : GSem nD τ sig} {i j n : ℕ} (h : 0 < tallyAt g i n g' j) : g' = g ∧ j = i := by
  rw [tallyAt_apply] at h
  by_contra hn
  rw [if_neg hn] at h
  exact Nat.lt_irrefl 0 h

theorem Owed_pos {c : Dev nD} {S : Finset ℕ} {b : ℕ} {g : GSem nD τ sig} {j : ℕ} (h : 0 < Owed c S b g j) :
    g.1.2 = .tc ∧ ((∃ q ∈ S, j = 2 + 2 * q) ∨ ∃ q ∈ Finset.Ico b 248, j = 3 + 2 * q) := by
  unfold Owed at h
  rw [Pi.add_apply, Finsupp.add_apply] at h
  rcases Nat.add_pos_iff_pos_or_pos.mp h with h | h
  · obtain ⟨q, hq, h⟩ := sum_pos_mem h
    obtain ⟨rfl, rfl⟩ := tallyAt_pos_eq h
    exact ⟨rfl, .inl ⟨q, hq, rfl⟩⟩
  · obtain ⟨q, hq, h⟩ := sum_pos_mem h
    obtain ⟨rfl, rfl⟩ := tallyAt_pos_eq h
    exact ⟨rfl, .inr ⟨q, hq, rfl⟩⟩

/-! ## Levels: a number's level is itself -/

abbrev LN : GSem nD τ sig → Finset ℕ := SiteBlocks.L 512
abbrev lvN : GSem nD τ sig → ℕ → ℕ := SiteBlocks.lv

variable (F) in
/-- Every number's level on every cell. -/
def Lev : sProp 𝕄 := levAts LN lvN

instance Lev_persistent : BI.Persistent (Lev F) := by unfold Lev; infer_instance

/-- A wait at `l` while only larger numbers are owed. -/
theorem mayWait_owed (c : Dev nD) (s : SemLoc sig) {l : ℕ} (hl : l < 512) {S : Finset ℕ} {b : ℕ}
    (hS : ∀ q ∈ S, q < 248 ∧ l < 2 + 2 * q) (hb : ∀ q, b ≤ q → l < 3 + 2 * q) :
    Lev F ⊢ MayWait (c : Thread nD τ) s l (Owed c S b) :=
  by
  unfold Lev
  exact SiteBlocks.mayWait_of hl c s _ fun g j h => by
    obtain ⟨hg, ⟨q, hq, rfl⟩ | ⟨q, hq, rfl⟩⟩ := Owed_pos h
    · exact ⟨SiteBlocks.mem_L' hg (by have := (hS q hq).1; omega), (hS q hq).2⟩
    · rw [Finset.mem_Ico] at hq
      exact ⟨SiteBlocks.mem_L' hg (by omega), hb q hq.1⟩

/-! ## What a device holds towards the other devices -/

/-- The token of its `q`-th credit signal; the tokens of its `q`-th transfer; the credit it waits for before that
    transfer; the credit of its `q`-th receive. -/
def TC (c : Dev nD) (q : ℕ) : sProp 𝕄 := dutyTok ER (cell (ups (qrg q) c) (.cr (qph q) (qrg q))) (qk q) false
def TR (c : Dev nD) (q : ℕ) : sProp 𝕄 :=
  iprop(dutyTok ER (cell (tgt (qrg q) c) (.rv (qph q) (qrg q))) (qk q) false ∗ dutyTok ER (cell c (.sd (qph q) (qrg q))) (qk q) false)
def CC (c : Dev nD) (q : ℕ) : sProp 𝕄 := cred (tallyAt (cell c (.cr (qph q) (qrg q))) (2 + 2 * q) 1)
def CR (c : Dev nD) (q : ℕ) : sProp 𝕄 := cred (tallyAt (cell c (.rv (qph q) (qrg q))) (3 + 2 * q) N)

/-- Device `c` with the credits `S` still to signal, transfers from `b` on still to issue, credits from `d` on and
    receives from `e` on still to wait for. -/
def G (c : Dev nD) (S : Finset ℕ) (b d e : ℕ) : sProp 𝕄 :=
  iprop(∃ Wt : Waits sig ℕ, owes (c : Thread nD τ) (Owed c S b) Wt ∗ bigSep S (TC c) ∗ bigSep (Finset.Ico b 248) (TR c)
    ∗ bigSep (Finset.Ico d 248) (CC c) ∗ bigSep (Finset.Ico e 248) (CR c))

/-- All cells' invariants, under the names `κ`, and the levels. -/
def Inv (κ : Dev nD × K → ℕ) : sProp 𝕄 :=
  iprop(Lev F ∗ bigSep Finset.univ fun p : Dev nD × K => cellInv ER (Rd X W) (κ p) (cell p.1 p.2))

instance Inv_persistent (κ : Dev nD × K → ℕ) : BI.Persistent (Inv (F := F) X W κ) := by unfold Inv; infer_instance

theorem Inv_cell (κ : Dev nD × K → ℕ) (c : Dev nD) (k : K) : Inv X W κ ⊢ cellInv ER (Rd X W) (κ (c, k)) (cell c k) := by
  have h : (bigSep Finset.univ fun p : Dev nD × K => cellInv ER (Rd X W) (κ p) (cell p.1 p.2)) ⊢ cellInv ER (Rd X W) (κ (c, k)) (cell c k) :=
    bigSep_elim (Φ := fun p : Dev nD × K => cellInv ER (Rd X W) (κ p) (cell p.1 p.2)) (Finset.mem_univ (c, k))
  unfold Inv
  iintro ⟨-, H⟩
  iapply h
  iexact H
theorem Inv_lev (κ : Dev nD × K → ℕ) : Inv X W κ ⊢ Lev F := by
  unfold Inv
  iintro ⟨H, -⟩
  iexact H

end Cert.RingKernelIdeal
-- ==== Proof.KernelIdeal.Ops.lean ====
/-
# One operation at a time

What each operation of the kernel does to a device's holdings, at a symbolic ring and round.
-/
module

public import proofs.«01_k».proof.Proof.KernelIdeal.Sched
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-- No loop of the kernel needs a variant. -/
abbrev 𝒱₀ : Variants := Variants.none

variable (F) in
/-- The kernel's programs, and a device running one to a postcondition. -/
abbrev Pg (α : Type) : Type 1 := Prog (TpuEff nD τ sig (Elt F) Λ₀ .tc) α
abbrev WP {α : Type} (c : Dev nD) (p : Pg F α) (Kt : α → sProp 𝕄) : sProp 𝕄 :=
  wp frame (wpE (defs₀ (F := F)) 𝒱₀ (c : Thread nD τ) none) Set.univ p Kt

section Rules

variable (κ : Dev nD × K → ℕ) (c : Dev nD) {α : Type}
variable {S S' : Finset ℕ} {b d e k : ℕ} {ph : Bool} {i : Fin 4}

/-- The holding numbered `Q ph i k`, taken off the rest. -/
theorem CR_pop (hk : k < 31) : bigSep (Finset.Ico (Q ph i k) 248) (CR (F := F) c)
    ⊢ iprop(cred (tallyAt (cell c (.rv ph i)) (3 + 2 * Q ph i k) N) ∗ bigSep (Finset.Ico (Q ph i k + 1) 248) (CR c)) := by
  have h : CR (F := F) c (Q ph i k) = cred (tallyAt (cell c (.rv ph i)) (3 + 2 * Q ph i k) N) := by
    unfold CR; rw [qph_Q ph i hk, qrg_Q]
  rw [bigSep_Ico_succ_bot (Q_lt ph i hk), h]
theorem CC_pop (hk : k < 31) : bigSep (Finset.Ico (Q ph i k) 248) (CC (F := F) c)
    ⊢ iprop(cred (tallyAt (cell c (.cr ph i)) (2 + 2 * Q ph i k) 1) ∗ bigSep (Finset.Ico (Q ph i k + 1) 248) (CC c)) := by
  have h : CC (F := F) c (Q ph i k) = cred (tallyAt (cell c (.cr ph i)) (2 + 2 * Q ph i k) 1) := by
    unfold CC; rw [qph_Q ph i hk, qrg_Q]
  rw [bigSep_Ico_succ_bot (Q_lt ph i hk), h]
theorem TR_pop (hk : k < 31) : bigSep (Finset.Ico (Q ph i k) 248) (TR (F := F) c)
    ⊢ iprop((dutyTok ER (cell (tgt i c) (.rv ph i)) k false ∗ dutyTok ER (cell c (.sd ph i)) k false)
        ∗ bigSep (Finset.Ico (Q ph i k + 1) 248) (TR c)) := by
  have h : TR (F := F) c (Q ph i k) = iprop(dutyTok ER (cell (tgt i c) (.rv ph i)) k false ∗ dutyTok ER (cell c (.sd ph i)) k false) := by
    unfold TR; rw [qph_Q ph i hk, qrg_Q, qk_Q ph i hk]
  rw [bigSep_Ico_succ_bot (Q_lt ph i hk), h]
theorem TC_pop (hk : k < 31) (h : S = insert (Q ph i k) S') (hn : Q ph i k ∉ S') : bigSep S (TC (F := F) c)
    ⊢ iprop(dutyTok ER (cell (ups i c) (.cr ph i)) k false ∗ bigSep S' (TC c)) := by
  have h' : TC (F := F) c (Q ph i k) = dutyTok ER (cell (ups i c) (.cr ph i)) k false := by
    unfold TC; rw [qph_Q ph i hk, qrg_Q, qk_Q ph i hk]
  rw [h, bigSep_insert hn, h']
  exact .rfl

/-- A wait at `l` while only larger numbers are owed. -/
theorem mayWait_inv (s : SemLoc sig) {l : ℕ} (hl : l < 512) (hS : ∀ q ∈ S, q < 248 ∧ l < 2 + 2 * q)
    (hb : ∀ q, b ≤ q → l < 3 + 2 * q) : Inv X W κ ⊢ MayWait (c : Thread nD τ) s l (Owed c S b) :=
  (Inv_lev X W κ).trans (mayWait_owed c s hl hS hb)

theorem wait_rv {Kt : α → sProp 𝕄} (hk : k < 31) (hS : ∀ q ∈ S, q < 248 ∧ Q ph i k < q) (hb : Q ph i k < b) {sem : DmaSem sig} (hs : sem = rvS ph i)
    {sp sp' : Space} {s s' : Shape} {e₁ e' : EltTy} {src : Memref sig .tc sp' s' e'} {dst : Memref sig .tc sp s e₁}
    {h₁ : src.view.WordExact} {h₂ : dst.view.WordExact} (hd : dst.view.dmaCredit = N) {kont : PUnit → Pg F α} :
    iprop(Inv X W κ ∗ G c S b d (Q ph i k) ∗ atPos ER (cell c (.rv ph i)) k ∅ 0)
      ⊢ iprop(((G c S b d (Q ph i k + 1) ∗ atPos ER (cell c (.rv ph i)) (k + 1) ∅ 0
              ∗ slabPts (rcvM ph) i c (sent X W ph i k (ups i c)) ∗ reached ER (cell (ups i c) (.cr ph i)) (k + 1)
              ∗ reached ER (cell c (.rv ph i)) (k + 1))
            -∗ WP c (kont ⟨⟩) Kt)
          -∗ WP c (.op (.waitDma2 sem src dst h₁ h₂) kont) Kt) := by
  subst hs
  have hw : ∀ K : PUnit → sProp 𝕄, wpE (defs₀ (F := F)) 𝒱₀ (c : Thread nD τ) none Set.univ (.waitDma2 (rvS ph i) src dst h₁ h₂) K
      = waitSpec (c : Thread nD τ) Set.univ (csem (.rv ph i)) N K := fun K => by
    rw [wpE_waitDma2_eq, hd]; rfl
  have he : 0 + N = (Rd X W).expect (cell c (.rv ph i)) k := by
    rw [Nat.zero_add, expect_eq X W c (k := .rv ph i) (by simp) hk]; rfl
  have hm : Inv X W κ ⊢ MayWait (c : Thread nD τ) (csem (.rv ph i)) (3 + 2 * Q ph i k) (Owed c S b) :=
    mayWait_inv X W κ c _ (by have := Q_lt ph i hk; omega) (fun q hq => ⟨(hS q hq).1, by have := (hS q hq).2; omega⟩)
      (fun q hq => by omega)
  iintro ⟨#HI, HG, Hat⟩ Hk
  unfold G
  icases HG with ⟨%Wt, HO, HTC, HTR, HCC, HCR⟩
  ihave HCR := (CR_pop c hk) $$ HCR
  icases HCR with ⟨Hc, HCR⟩
  iapply (Rounds.wp_wait_rest_token 𝒱₀ ER (Rd X W) (c : Thread nD τ) none (κ := κ (c, .rv ph i)) (sm := csem (.rv ph i)) (k' := N)
      hw (Set.mem_univ _) (3 + 2 * Q ph i k) (O := Owed c S b) (W := Wt) (R := k) (m := 0) (T := ∅) he) $$ [HO Hc Hat]
  · isplitr; · iapply (Inv_cell X W κ c (.rv ph i)); iexact HI
    isplitl [Hc]; · iexact Hc
    isplitl [HO]; · iexact HO
    isplitr
    · iapply hm; iexact HI
    iexact Hat
  iintro ⟨HO, Hat, Hr, Hp⟩
  ihave Hp := (Entails.of_eq (rest_eq X W c (k := .rv ph i) (by simp) hk)) $$ Hp
  unfold payOf
  icases Hp with ⟨Hs, Hr'⟩
  iapply Hk
  isplitl [HO HTC HTR HCC HCR]
  · iexists (insert (csem (.rv ph i), 3 + 2 * Q ph i k) Wt)
    isplitl [HO]; · iexact HO
    isplitl [HTC]; · iexact HTC
    isplitl [HTR]; · iexact HTR
    isplitl [HCC]; · iexact HCC
    iexact HCR
  isplitl [Hat]; · iexact Hat
  isplitl [Hs]; · iexact Hs
  isplitl [Hr']; · iexact Hr'
  iexact Hr

theorem wait_cr {Kt : α → sProp 𝕄} (hk : k < 31) (hS : ∀ q ∈ S, q < 248 ∧ Q ph i k < q) (hb : Q ph i k ≤ b) {sem : Sem sig} (hs : sem = crS ph i)
    {z : ℤ} (hz : z = (1 : ℕ)) {kont : PUnit → Pg F α} :
    iprop(Inv X W κ ∗ G c S b (Q ph i k) e ∗ atPos ER (cell c (.cr ph i)) k ∅ 0)
      ⊢ iprop(((G c S b (Q ph i k + 1) e ∗ atPos ER (cell c (.cr ph i)) (k + 1) ∅ 0
              ∗ slabAny (rcvM ph) i (tgt i c) ∗ reached ER (cell (tgt i c) (.rv ph i)) k ∗ reached ER (cell c (.cr ph i)) (k + 1))
            -∗ WP c (kont ⟨⟩) Kt)
          -∗ WP c (.op (.semWait sem z) kont) Kt) := by
  subst hs hz
  have he : 0 + 1 = (Rd X W).expect (cell c (.cr ph i)) k := by
    rw [expect_eq X W c (k := .cr ph i) (by simp) hk]; rfl
  have hm : Inv X W κ ⊢ MayWait (c : Thread nD τ) (csem (.cr ph i)) (2 + 2 * Q ph i k) (Owed c S b) :=
    mayWait_inv X W κ c _ (by have := Q_lt ph i hk; omega) (fun q hq => ⟨(hS q hq).1, by have := (hS q hq).2; omega⟩)
      (fun q hq => by omega)
  iintro ⟨#HI, HG, Hat⟩ Hk
  unfold G
  icases HG with ⟨%Wt, HO, HTC, HTR, HCC, HCR⟩
  ihave HCC := (CC_pop c hk) $$ HCC
  icases HCC with ⟨Hc, HCC⟩
  iapply (Rounds.wp_wait_rest_token 𝒱₀ ER (Rd X W) (c : Thread nD τ) none (κ := κ (c, .cr ph i)) (sm := csem (.cr ph i)) (k' := 1)
      (wpE_semWait_eq 𝒱₀ (c : Thread nD τ) none Set.univ) (Set.mem_univ _) (2 + 2 * Q ph i k)
      (O := Owed c S b) (W := Wt) (R := k) (m := 0) (T := ∅) he) $$ [HO Hc Hat]
  · isplitr; · iapply (Inv_cell X W κ c (.cr ph i)); iexact HI
    isplitl [Hc]; · iexact Hc
    isplitl [HO]; · iexact HO
    isplitr
    · iapply hm; iexact HI
    iexact Hat
  iintro ⟨HO, Hat, Hr, Hp⟩
  ihave Hp := (Entails.of_eq (rest_eq X W c (k := .cr ph i) (by simp) hk)) $$ Hp
  unfold payOf
  icases Hp with ⟨Hs, Hr'⟩
  iapply Hk
  isplitl [HO HTC HTR HCC HCR]
  · iexists (insert (csem (.cr ph i), 2 + 2 * Q ph i k) Wt)
    isplitl [HO]; · iexact HO
    isplitl [HTC]; · iexact HTC
    isplitl [HTR]; · iexact HTR
    isplitl [HCC]; · iexact HCC
    iexact HCR
  isplitl [Hat]; · iexact Hat
  isplitl [Hs]; · iexact Hs
  isplitl [Hr']; · iexact Hr'
  iexact Hr

theorem signal_cr {Kt : α → sProp 𝕄} (hk : k < 31) (h : S = insert (Q ph i k) S') (hq : Q ph i k ∉ S') {n : Dev nD} (hn : n = ups i c)
    {sem : Sem sig} (hs : sem = crS ph i) {z : ℤ} (hz : z = (1 : ℕ)) {kont : PUnit → Pg F α} :
    iprop(Inv X W κ ∗ G c S b d e ∗ slabAny (rcvM ph) i c ∗ reached ER (cell c (.rv ph i)) k ∗ reached ER (cell (ups i c) (.cr ph i)) k)
      ⊢ iprop((G c S' b d e -∗ WP c (kont ⟨⟩) Kt) -∗ WP c (.op (.semSignal ((n, Proc.tc) : Thread nD τ) sem z) kont) Kt) := by
  subst hs hz hn
  have hp : iprop(slabAny (rcvM ph) i c ∗ reached ER (cell c (.rv ph i)) k)
      ⊢ (Rd (F := F) X W).payload ((ups i c : Thread nD τ), .reg (crS ph i)) k false := by
    show _ ⊢ (Rd (F := F) X W).payload (cell (ups i c) (.cr ph i)) k false
    rw [payload_eq]
    show _ ⊢ iprop(slabAny (rcvM ph) i (tgt i (ups i c)) ∗ reached ER (cell (tgt i (ups i c)) (.rv ph i)) k)
    rw [tgt_ups]
  have hO : Owed c S b = Owed c S' b + tallyAt ((ups i c : Thread nD τ), .reg (crS ph i)) (2 + 2 * Q ph i k) 1 := by
    rw [Owed_signal c b h hq, crOwed_Q c ph i hk]; rfl
  iintro ⟨#HI, HG, Hs, Hr, Hrc⟩ Hk
  unfold G
  icases HG with ⟨%Wt, HO, HTC, HTR, HCC, HCR⟩
  ihave HTC := (TC_pop c hk h hq) $$ HTC
  icases HTC with ⟨Ht, HTC⟩
  iapply (Rounds.wp_signal 𝒱₀ ER (Rd X W) (c : Thread nD τ) none (dst := (ups i c : Thread nD τ)) (κ := κ (ups i c, .cr ph i))
      (sem := crS ph i) (k' := 1) (r := k) (d := false)
      (mem_duties X W (ups i c) (k := .cr ph i) (by simp) hk) (amount_eq X W (ups i c) (.cr ph i) k false)
      (2 + 2 * Q ph i k) (Owed c S' b) hO) $$ [HO Ht Hs Hr Hrc]
  · isplitr; · iapply (Inv_cell X W κ (ups i c) (.cr ph i)); iexact HI
    isplitl [HO]; · iexact HO
    isplitl [Ht]; · iexact Ht
    isplitl [Hs Hr]
    · iapply hp
      isplitl [Hs]; · iexact Hs
      iexact Hr
    iexact Hrc
  iintro HO
  iapply Hk
  iexists Wt
  isplitl [HO]; · iexact HO
  isplitl [HTC]; · iexact HTC
  isplitl [HTR]; · iexact HTR
  isplitl [HCC]; · iexact HCC
  iexact HCR

theorem send {Kt : α → sProp 𝕄} (hk : k < 31) {n : Dev nD} (hn : n = tgt i c)
    {src dst : Memref sig .tc .vmem S256x1024 .bf16} (hsrc : src = slab (sndM ph) i) (hdst : dst = slab (rcvM ph) i)
    {sS sR : DmaSem sig} (hsS : sS = sdS ph i) (hsR : sR = rvS ph i) {hsc} {h₁ h₂ h₃} {kont : PUnit → Pg F α} :
    iprop(Inv X W κ ∗ G c S (Q ph i k) d e ∗ slabPts (sndM ph) i c (sent X W ph i k c) ∗ slabAny (rcvM ph) i (tgt i c)
        ∗ reached ER (cell (tgt i c) (.rv ph i)) k ∗ reached ER (cell c (.cr ph i)) (k + 1) ∗ reached ER (cell c (.sd ph i)) k)
      ⊢ iprop(((G c S (Q ph i k + 1) d e ∗ cred (tallyAt (cell c (.sd ph i)) 0 N)) -∗ WP c (kont ⟨⟩) Kt)
        -∗ WP c (.op (.enqueueDma src (.remote (Dev.tc n) dst (.dma sS) hsc) (.dma sR) h₁ h₂ h₃) kont) Kt) := by
  subst hn hsrc hdst hsS hsR
  have hO : Owed c S (Q ph i k) = Owed c S (Q ph i k + 1) + tallyAt (cell (tgt i c) (.rv ph i)) (3 + 2 * Q ph i k) N := by
    rw [Owed_send c S (Q_lt ph i hk), rvOwed_Q c ph i hk]
  iintro ⟨#HI, HG, Hs, Hd, Hrv, Hrc, Hrs⟩ Hk
  unfold G slabPts slabAny
  icases HG with ⟨%Wt, HO, HTC, HTR, HCC, HCR⟩
  ihave HTR := (TR_pop c hk) $$ HTR
  icases HTR with ⟨⟨Ht, Ht'⟩, HTR⟩
  icases Hs with ⟨%fs, %hfs, Hs⟩
  icases Hd with ⟨%fd, Hd⟩
  have hp1 : ((slab (sndM ph) i).view.loc (c : Thread nD τ) ↦[(slab (sndM ph) i).view.set]{fullShare} fs : sProp 𝕄)
      ⊢ (Rd (F := F) X W).payload (cell c (.sd ph i)) k false := by
    rw [payload_eq]; unfold payOf slabAny
    iintro H; iexists fs; iexact H
  have hp2 : iprop(((slab (rcvM ph) i).view.loc (tgt i c : Thread nD τ) ↦[(slab (rcvM ph) i).view.set]{fullShare}
        ((slab (rcvM ph) i).view.write (Elt F) fd ((slab (sndM ph) i).view.read (Elt F) fs) Finset.univ))
        ∗ (reached ER (cell c (.cr ph i)) (k + 1) : sProp 𝕄))
      ⊢ (Rd (F := F) X W).payload (cell (tgt i c) (.rv ph i)) k false := by
    rw [payload_eq]
    have hu : payOf X W (tgt i c) (.rv ph i) k
        = iprop(slabPts (rcvM ph) i (tgt i c) (sent X W ph i k c) ∗ reached ER (cell c (.cr ph i)) (k + 1)) := by
      show iprop(slabPts (rcvM ph) i (tgt i c) (sent X W ph i k (ups i (tgt i c))) ∗ reached ER (cell (ups i (tgt i c)) (.cr ph i)) (k + 1)) = _
      rw [ups_tgt]
    rw [hu]
    unfold slabPts
    iintro ⟨H, Hr⟩
    isplitl [H]
    · iexists ((slab (rcvM ph) i).view.write (Elt F) fd ((slab (sndM ph) i).view.read (Elt F) fs) Finset.univ)
      isplitr
      · ipureintro; exact (View.read_write_univ _ _).trans hfs
      · iexact H
    iexact Hr
  iapply (Rounds.wp_send_pointsTo_with 𝒱₀ ER (Rd X W) (c : Thread nD τ) none (c' := (tgt i c : Thread nD τ))
      (κ₁ := κ (c, .sd ph i)) (κ₂ := κ (tgt i c, .rv ph i)) (sS := csem (.sd ph i)) (sem := csem (.rv ph i))
      (src := slab (sndM ph) i) (dst := slab (rcvM ph) i) (r₁ := k) (r₂ := k) (d₁ := false) (d₂ := false)
      (mem_duties X W c (k := .sd ph i) (by simp) hk) (mem_duties X W (tgt i c) (k := .rv ph i) (by simp) hk)
      (3 + 2 * Q ph i k) 0 N (slab_credit ph i) (amount_eq X W c (.sd ph i) k false) (amount_eq X W (tgt i c) (.rv ph i) k false)
      (Owed c S (Q ph i k + 1)) hO hp1 hp2) $$ [HO Ht Ht' Hs Hd Hrv Hrc Hrs]
  · isplitr; · iapply (Inv_cell X W κ c (.sd ph i)); iexact HI
    isplitr; · iapply (Inv_cell X W κ (tgt i c) (.rv ph i)); iexact HI
    isplitl [Hs]; · iexact Hs
    isplitl [Hd Hrc]
    · isplitl [Hd]; · iexact Hd
      iexact Hrc
    isplitl [HO]; · iexact HO
    isplitl [Ht']; · iexact Ht'
    isplitl [Hrs]; · iexact Hrs
    isplitl [Ht]; · iexact Ht
    iexact Hrv
  iintro ⟨Hc, HO⟩
  iapply Hk
  isplitr [Hc]
  · iexists Wt
    isplitl [HO]; · iexact HO
    isplitl [HTC]; · iexact HTC
    isplitl [HTR]; · iexact HTR
    isplitl [HCC]; · iexact HCC
    iexact HCR
  iexact Hc

/-- The wait for a device's own transfer of round `k`: the send slab comes back. -/
theorem wait_sd {Kt : α → sProp 𝕄} (hk : k < 31) (hS : ∀ q ∈ S, q < 248) {sem : DmaSem sig} (hs : sem = sdS ph i)
    {sp sp' : Space} {s s' : Shape} {e₁ e' : EltTy} {src : Memref sig .tc sp' s' e'} {dst : Memref sig .tc sp s e₁}
    {h₁ : src.view.WordExact} {h₂ : dst.view.WordExact} (hd : dst.view.dmaCredit = N) {kont : PUnit → Pg F α} :
    iprop(Inv X W κ ∗ G c S b d e ∗ atPos ER (cell c (.sd ph i)) k ∅ 0 ∗ cred (tallyAt (cell c (.sd ph i)) 0 N))
      ⊢ iprop(((G c S b d e ∗ atPos ER (cell c (.sd ph i)) (k + 1) ∅ 0 ∗ slabAny (sndM ph) i c ∗ reached ER (cell c (.sd ph i)) (k + 1))
            -∗ WP c (kont ⟨⟩) Kt)
          -∗ WP c (.op (.waitDma2 sem src dst h₁ h₂) kont) Kt) := by
  subst hs
  have hw : ∀ K : PUnit → sProp 𝕄, wpE (defs₀ (F := F)) 𝒱₀ (c : Thread nD τ) none Set.univ (.waitDma2 (sdS ph i) src dst h₁ h₂) K
      = waitSpec (c : Thread nD τ) Set.univ (csem (.sd ph i)) N K := fun K => by
    rw [wpE_waitDma2_eq, hd]; rfl
  have he : 0 + N = (Rd X W).expect (cell c (.sd ph i)) k := by
    rw [Nat.zero_add, expect_eq X W c (k := .sd ph i) (by simp) hk]; rfl
  have hm : Inv X W κ ⊢ MayWait (c : Thread nD τ) (csem (.sd ph i)) 0 (Owed c S b) :=
    mayWait_inv X W κ c _ (by omega) (fun q hq => ⟨hS q hq, by omega⟩) (fun q hq => by omega)
  iintro ⟨#HI, HG, Hat, Hc⟩ Hk
  unfold G
  icases HG with ⟨%Wt, HO, HTC, HTR, HCC, HCR⟩
  iapply (Rounds.wp_wait_rest_token 𝒱₀ ER (Rd X W) (c : Thread nD τ) none (κ := κ (c, .sd ph i)) (sm := csem (.sd ph i)) (k' := N)
      hw (Set.mem_univ _) 0 (O := Owed c S b) (W := Wt) (R := k) (m := 0) (T := ∅) he) $$ [HO Hc Hat]
  · isplitr; · iapply (Inv_cell X W κ c (.sd ph i)); iexact HI
    isplitl [Hc]; · iexact Hc
    isplitl [HO]; · iexact HO
    isplitr
    · iapply hm; iexact HI
    iexact Hat
  iintro ⟨HO, Hat, Hr, Hp⟩
  ihave Hp := (Entails.of_eq (rest_eq X W c (k := .sd ph i) (by simp) hk)) $$ Hp
  unfold payOf
  iapply Hk
  isplitl [HO HTC HTR HCC HCR]
  · iexists (insert (csem (.sd ph i), 0) Wt)
    isplitl [HO]; · iexact HO
    isplitl [HTC]; · iexact HTC
    isplitl [HTR]; · iexact HTR
    isplitl [HCC]; · iexact HCC
    iexact HCR
  isplitl [Hat]; · iexact Hat
  isplitl [Hp]; · iexact Hp
  iexact Hr

/-- A device's own copy of round `k` to its result, and the wait for it. -/
theorem copy_out {Kt : α → sProp 𝕄} (hk : k < 32) {src : Memref sig .tc .vmem S256x1024 .f32} (hsrc : src = slab stgM i)
    {s : Fin 32} (hseg : s = seg i c (31 + k)) {dst : Memref sig .tc .hbm S256x1024 .f32} (hdst : dst = outB s i)
    {sR : DmaSem sig} (hsR : sR = cpS i) {v : S256x1024.Idx → Elt F .f32} (hv : v = outVal X W i k c) {h₁ h₂ h₃} {kont : PUnit → Pg F α} :
    iprop(Inv X W κ ∗ slabPts stgM i c v ∗ outAny s i c
        ∗ dutyTok ER (cell c (.cp i)) k false ∗ reached ER (cell c (.cp i)) k)
      ⊢ iprop((cred (tallyAt (cell c (.cp i)) 0 NO) -∗ WP c (kont ⟨⟩) Kt)
        -∗ WP c (.op (.enqueueDma src (.here dst) (.dma sR) h₁ h₂ h₃) kont) Kt) := by
  subst hsrc hdst hsR hseg hv
  iintro ⟨#HI, Hs, Hd, Ht, Hr⟩ Hk
  unfold slabPts outAny
  icases Hs with ⟨%fs, %hfs, Hs⟩
  icases Hd with ⟨%fd, Hd⟩
  have hp : iprop(((outB (seg i c (31 + k)) i).view.loc (c : Thread nD τ) ↦[(outB (seg i c (31 + k)) i).view.set]{fullShare}
        ((outB (seg i c (31 + k)) i).view.write (Elt F) fd ((slab stgM i).view.read (Elt F) fs) Finset.univ))
        ∗ ((slab stgM i).view.loc (c : Thread nD τ) ↦[(slab stgM i).view.set]{fullShare} fs : sProp 𝕄))
      ⊢ (Rd (F := F) X W).payload (cell c (.cp i)) k false := by
    rw [payload_eq]; unfold payOf slabAny outPts
    iintro ⟨H, Hs⟩
    isplitl [Hs]
    · iexists fs; iexact Hs
    iexists ((outB (seg i c (31 + k)) i).view.write (Elt F) fd ((slab stgM i).view.read (Elt F) fs) Finset.univ)
    isplitr
    · ipureintro; exact (View.read_write_univ _ _).trans hfs
    · iexact H
  iapply (Rounds.wp_copy_pointsTo 𝒱₀ ER (Rd X W) (c : Thread nD τ) none (κ := κ (c, .cp i)) (sem := csem (.cp i))
      (src := slab stgM i) (dst := outB (seg i c (31 + k)) i) (r := k) (d := false)
      (mem_duties X W c (k := .cp i) (by simp) hk) 0 NO (outB_credit _ i) (amount_eq X W c (.cp i) k false) hp) $$ [Ht Hs Hd Hr]
  · isplitr; · iapply (Inv_cell X W κ c (.cp i)); iexact HI
    isplitl [Hs]; · iexact Hs
    isplitl [Hd]; · iexact Hd
    isplitl [Ht]; · iexact Ht
    iexact Hr
  iexact Hk

theorem wait_cp {Kt : α → sProp 𝕄} (hk : k < 32) (hS : ∀ q ∈ S, q < 248) {sem : DmaSem sig} (hs : sem = cpS i)
    {sp sp' : Space} {s s' : Shape} {e₁ e' : EltTy} {src : Memref sig .tc sp' s' e'} {dst : Memref sig .tc sp s e₁}
    {h₁ : src.view.WordExact} {h₂ : dst.view.WordExact} (hd : dst.view.dmaCredit = NO) {kont : PUnit → Pg F α} :
    iprop(Inv X W κ ∗ G c S b d e ∗ atPos ER (cell c (.cp i)) k ∅ 0 ∗ cred (tallyAt (cell c (.cp i)) 0 NO))
      ⊢ iprop(((G c S b d e ∗ atPos ER (cell c (.cp i)) (k + 1) ∅ 0 ∗ slabAny stgM i c
              ∗ outPts (seg i c (31 + k)) i c (outVal X W i k c) ∗ reached ER (cell c (.cp i)) (k + 1))
            -∗ WP c (kont ⟨⟩) Kt)
          -∗ WP c (.op (.waitDma2 sem src dst h₁ h₂) kont) Kt) := by
  subst hs
  have hw : ∀ K : PUnit → sProp 𝕄, wpE (defs₀ (F := F)) 𝒱₀ (c : Thread nD τ) none Set.univ (.waitDma2 (cpS i) src dst h₁ h₂) K
      = waitSpec (c : Thread nD τ) Set.univ (csem (.cp i)) NO K := fun K => by
    rw [wpE_waitDma2_eq, hd]; rfl
  have he : 0 + NO = (Rd X W).expect (cell c (.cp i)) k := by
    rw [Nat.zero_add, expect_eq X W c (k := .cp i) (by simp) hk]; rfl
  have hm : Inv X W κ ⊢ MayWait (c : Thread nD τ) (csem (.cp i)) 0 (Owed c S b) :=
    mayWait_inv X W κ c _ (by omega) (fun q hq => ⟨hS q hq, by omega⟩) (fun q hq => by omega)
  iintro ⟨#HI, HG, Hat, Hc⟩ Hk
  unfold G
  icases HG with ⟨%Wt, HO, HTC, HTR, HCC, HCR⟩
  iapply (Rounds.wp_wait_rest_token 𝒱₀ ER (Rd X W) (c : Thread nD τ) none (κ := κ (c, .cp i)) (sm := csem (.cp i)) (k' := NO)
      hw (Set.mem_univ _) 0 (O := Owed c S b) (W := Wt) (R := k) (m := 0) (T := ∅) he) $$ [HO Hc Hat]
  · isplitr; · iapply (Inv_cell X W κ c (.cp i)); iexact HI
    isplitl [Hc]; · iexact Hc
    isplitl [HO]; · iexact HO
    isplitr
    · iapply hm; iexact HI
    iexact Hat
  iintro ⟨HO, Hat, Hr, Hp⟩
  ihave Hp := (Entails.of_eq (rest_eq X W c (k := .cp i) (by simp) hk)) $$ Hp
  unfold payOf
  icases Hp with ⟨Hs, Ho⟩
  iapply Hk
  isplitl [HO HTC HTR HCC HCR]
  · iexists (insert (csem (.cp i), 0) Wt)
    isplitl [HO]; · iexact HO
    isplitl [HTC]; · iexact HTC
    isplitl [HTR]; · iexact HTR
    isplitl [HCC]; · iexact HCC
    iexact HCR
  isplitl [Hat]; · iexact Hat
  isplitl [Hs]; · iexact Hs
  isplitl [Ho]; · iexact Ho
  iexact Hr

/-- The barrier: a unit to each of two devices, two units waited for. -/
theorem signal_bar {Kt : α → sProp 𝕄} {n n' : Dev nD} (hn : n = n') (dd : Bool) {O : CellTallies nD τ sig ℕ} {Wt : Waits sig ℕ}
    {sem : Sem sig} (hs : sem = barS) {z : ℤ} (hz : z = (1 : ℕ)) {kont : PUnit → Pg F α} :
    iprop(Inv X W κ ∗ owes (c : Thread nD τ) (O + tallyAt (cell n' .bar) 1 1) Wt ∗ dutyTok ER (cell n' .bar) 0 dd ∗ reached ER (cell n' .bar) 0)
      ⊢ iprop((owes (c : Thread nD τ) O Wt -∗ WP c (kont ⟨⟩) Kt) -∗ WP c (.op (.semSignal ((n, Proc.tc) : Thread nD τ) sem z) kont) Kt) := by
  subst hs hz hn
  have hp : (iprop(emp) : sProp 𝕄) ⊢ (Rd (F := F) X W).payload ((n : Thread nD τ), .reg barS) 0 dd := by
    show _ ⊢ (Rd (F := F) X W).payload (cell n .bar) 0 dd
    rw [payload_eq]; exact .rfl
  iintro ⟨#HI, HO, Ht, Hr⟩ Hk
  iapply (Rounds.wp_signal 𝒱₀ ER (Rd X W) (c : Thread nD τ) none (dst := (n : Thread nD τ)) (κ := κ (n, .bar))
      (sem := barS) (k' := 1) (r := 0) (d := dd)
      (mem_duties_bar X W n dd) (amount_eq X W n .bar 0 dd) 1 O rfl) $$ [HO Ht Hr]
  · isplitr; · iapply (Inv_cell X W κ n .bar); iexact HI
    isplitl [HO]; · iexact HO
    isplitl [Ht]; · iexact Ht
    isplitr
    · iapply hp; iempintro
    iexact Hr
  iexact Hk

theorem wait_bar {Kt : α → sProp 𝕄} (hS : ∀ q ∈ S, q < 248) {sem : Sem sig} (hs : sem = barS)
    {z : ℤ} (hz : z = (2 : ℕ)) {kont : PUnit → Pg F α} :
    iprop(Inv X W κ ∗ G c S b d e ∗ atPos ER (cell c .bar) 0 ∅ 0 ∗ cred (tallyAt (cell c .bar) 1 2))
      ⊢ iprop(((G c S b d e ∗ atPos ER (cell c .bar) 1 ∅ 0) -∗ WP c (kont ⟨⟩) Kt)
          -∗ WP c (.op (.semWait sem z) kont) Kt) := by
  subst hs hz
  have hm : Inv X W κ ⊢ MayWait (c : Thread nD τ) (csem .bar) 1 (Owed c S b) :=
    mayWait_inv X W κ c _ (by omega) (fun q hq => ⟨hS q hq, by omega⟩) (fun q hq => by omega)
  iintro ⟨#HI, HG, Hat, Hc⟩ Hk
  unfold G
  icases HG with ⟨%Wt, HO, HTC, HTR, HCC, HCR⟩
  iapply (Rounds.wp_wait_rest_token 𝒱₀ ER (Rd X W) (c : Thread nD τ) none (κ := κ (c, .bar)) (sm := csem .bar) (k' := 2)
      (wpE_semWait_eq 𝒱₀ (c : Thread nD τ) none Set.univ) (Set.mem_univ _) 1
      (O := Owed c S b) (W := Wt) (R := 0) (m := 0) (T := ∅) (by rw [expect_bar])) $$ [HO Hc Hat]
  · isplitr; · iapply (Inv_cell X W κ c .bar); iexact HI
    isplitl [Hc]; · iexact Hc
    isplitl [HO]; · iexact HO
    isplitr
    · iapply hm; iexact HI
    iexact Hat
  iintro ⟨HO, Hat, -, -⟩
  iapply Hk
  isplitl [HO HTC HTR HCC HCR]
  · iexists (insert (csem .bar, 1) Wt)
    isplitl [HO]; · iexact HO
    isplitl [HTC]; · iexact HTC
    isplitl [HTR]; · iexact HTR
    isplitl [HCC]; · iexact HCC
    iexact HCR
  iexact Hat

end Rules

end Cert.RingKernelIdeal
-- ==== Proof.KernelIdeal.Mem.lean ====
/-
# Loads and stores

The loads and stores of the kernel at a symbolic ring: slabs of the scratch buffers, and the two staged operands.
-/
module

public import proofs.«01_k».proof.Proof.KernelIdeal.Ops
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

section Rules

variable (c : Dev nD) {α : Type} {i : Fin 4}

/-! ## Loads and stores -/

theorem hcD : S1x256x1024.ShapeCasts S256x1024 := shapeCasts_S1x256x1024_S256x1024
theorem hcU : S256x1024.ShapeCasts S1x256x1024 := shapeCasts_S256x1024_S1x256x1024

/-- A slab's elements, through its load or store and through its transfers. -/
theorem slab_set {e' : EltTy} (M : Memref sig .tc .vmem S4x256x1024 e') : (M.access (slabR i)).set = (slab M i).view.set :=
  (View.set_reshape _ _).symm

theorem slab_load {Kt : α → sProp 𝕄} {e' : EltTy} {M : Memref sig .tc .vmem S4x256x1024 e'} {off : Fin 3 → ℕ} (ho : off = ![i.val, 0, 0]) {hin hl}
    {v : S256x1024.Idx → Elt F e'} {kont : (S1x256x1024.Idx → Elt F e') → Pg F α} :
    slabPts M i c v
      ⊢ iprop((∀ u : S1x256x1024.Idx → Elt F e', ⌜shapeCast S256x1024 u hcD = v⌝ -∗ slabPts M i c v -∗ WP c (kont u) Kt)
        -∗ WP c (.op (.load M (Rect.unit (s := S4x256x1024) off S1x256x1024.size hin).toLoadRect hl) kont) Kt) := by
  subst ho
  unfold slabPts
  iintro ⟨%f, %hf, H⟩ Hk
  iapply (wp_load_rect 𝒱₀ (c : Thread nD τ) none Set.univ (m := M) (r := slabR i) (S := (slab M i).view.set) (q := fullShare) (f := f)
      (by rw [slab_set])) $$ [H]
  · iexact H
  iintro H
  iapply Hk $$ [] [H]
  · ipureintro; exact hf
  iexists f
  isplitr
  · ipureintro; exact hf
  iexact H

theorem slab_load_any {Kt : α → sProp 𝕄} {e' : EltTy} {M : Memref sig .tc .vmem S4x256x1024 e'} {off : Fin 3 → ℕ} (ho : off = ![i.val, 0, 0]) {hin hl}
    {kont : (S1x256x1024.Idx → Elt F e') → Pg F α} :
    slabAny M i c
      ⊢ iprop((∀ u : S1x256x1024.Idx → Elt F e', slabAny M i c -∗ WP c (kont u) Kt)
        -∗ WP c (.op (.load M (Rect.unit (s := S4x256x1024) off S1x256x1024.size hin).toLoadRect hl) kont) Kt) := by
  subst ho
  unfold slabAny
  iintro ⟨%f, H⟩ Hk
  iapply (wp_load_rect 𝒱₀ (c : Thread nD τ) none Set.univ (m := M) (r := slabR i) (S := (slab M i).view.set) (q := fullShare) (f := f)
      (by rw [slab_set])) $$ [H]
  · iexact H
  iintro H
  iapply Hk
  iexists f
  iexact H

/-- A store through a rectangle of a buffer, at what the rectangle's own squeezed view reads. -/
theorem store_gen {Kt : α → sProp 𝕄} {s s' : Shape} {e' : EltTy} {M : Memref sig .tc .vmem s e'} {r : Rect s} (hr : ∀ a, r.stride a = 1)
    (hq : r.shape.Squeezes s') (hc : r.shape.ShapeCasts s') {hx hm} {w : r.shape.Idx → Elt F e'} {kont : PUnit → Pg F α} :
    iprop(∃ f : Buf (Elt F) (((M.slice r hr).squeeze s' hq).view.loc (c : Thread nD τ)),
        (((M.slice r hr).squeeze s' hq).view.loc (c : Thread nD τ) ↦[((M.slice r hr).squeeze s' hq).view.set]{fullShare} f))
      ⊢ iprop((iprop(∃ f : Buf (Elt F) (((M.slice r hr).squeeze s' hq).view.loc (c : Thread nD τ)),
          ⌜((M.slice r hr).squeeze s' hq).view.read (Elt F) f = shapeCast s' w hc⌝
          ∗ (((M.slice r hr).squeeze s' hq).view.loc (c : Thread nD τ) ↦[((M.slice r hr).squeeze s' hq).view.set]{fullShare} f))
            -∗ WP c (kont ⟨⟩) Kt)
        -∗ WP c (.op (.store M r w Finset.univ hx hm) kont) Kt) := by
  have hs : (M.access r).set = ((M.slice r hr).squeeze s' hq).view.set := (View.set_reshape _ _).symm
  iintro ⟨%f, H⟩ Hk
  iapply (wp_store 𝒱₀ (c : Thread nD τ) none Set.univ (m := M) (r := r) (w := w) (S := ((M.slice r hr).squeeze s' hq).view.set) (f := f)
      (by rw [View.setOn_univ, hs])) $$ [H]
  · iexact H
  iintro H
  iapply Hk
  iexists ((M.access r).write (Elt F) f w Finset.univ)
  isplitr
  · ipureintro
    exact congrArg (fun z => shapeCast s' z hc) (View.read_write_univ (v := M.access r) f w)
  iexact H

theorem slab_store {Kt : α → sProp 𝕄} {e' : EltTy} {M : Memref sig .tc .vmem S4x256x1024 e'} {off : Fin 3 → ℕ} (ho : off = ![i.val, 0, 0]) {hin hx hm}
    {w : S1x256x1024.Idx → Elt F e'} {v : S256x1024.Idx → Elt F e'} (hv : shapeCast S256x1024 w hcD = v) {kont : PUnit → Pg F α} :
    slabAny M i c
      ⊢ iprop((slabPts M i c v -∗ WP c (kont ⟨⟩) Kt)
        -∗ WP c (.op (.store M (Rect.unit (s := S4x256x1024) off S1x256x1024.size hin) w Finset.univ hx hm) kont) Kt) := by
  subst ho hv
  unfold slabAny slabPts
  exact store_gen c (r := slabR i) (fun _ => rfl) squeezes_S1x256x1024_S256x1024 hcD

/-- The two staged operands. -/
def opPts (c : Dev nD) : sProp 𝕄 :=
  iprop((xM.view.loc (c : Thread nD τ) ↦[Finset.univ]{fullShare} X c) ∗ (wM.view.loc (c : Thread nD τ) ↦[Finset.univ]{fullShare} W c))

theorem x_load {Kt : α → sProp 𝕄} {off : Fin 2 → ℕ} {s : Fin 32} (ho : off = ![256 * s.val, 0]) {hin hl} {kont : (S256x256.Idx → Elt F .bf16) → Pg F α} :
    opPts X W c
      ⊢ iprop((opPts X W c -∗ WP c (kont (xrow X c s)) Kt)
        -∗ WP c (.op (.load xM (Rect.unit (s := S8192x256) off S256x256.size hin).toLoadRect hl) kont) Kt) := by
  subst ho
  unfold opPts
  iintro ⟨H, HW⟩ Hk
  iapply (wp_load 𝒱₀ (c : Thread nD τ) none Set.univ (m := xM) (S := Finset.univ) (q := fullShare) (f := X c) (Finset.subset_univ _)) $$ [H]
  · iexact H
  iintro H
  iapply Hk
  isplitl [H]; · iexact H
  iexact HW

theorem w_load {Kt : α → sProp 𝕄} {off : Fin 2 → ℕ} (i : Fin 4) (ho : off = ![0, 1024 * i.val]) {hin hl} {kont : (S256x1024.Idx → Elt F .bf16) → Pg F α} :
    opPts X W c
      ⊢ iprop((opPts X W c -∗ WP c (kont (wcol W c i)) Kt)
        -∗ WP c (.op (.load wM (Rect.unit (s := S256x4096) off S256x1024.size hin).toLoadRect hl) kont) Kt) := by
  subst ho
  unfold opPts
  iintro ⟨HX, H⟩ Hk
  iapply (wp_load 𝒱₀ (c : Thread nD τ) none Set.univ (m := wM) (S := Finset.univ) (q := fullShare) (f := W c) (Finset.subset_univ _)) $$ [H]
  · iexact H
  iintro H
  iapply Hk
  isplitl [HX]; · iexact HX
  iexact H

end Rules

end Cert.RingKernelIdeal
-- ==== Proof.KernelIdeal.Steps.lean ====
/-
# A ring's holdings between its steps

What a device holds of one ring between two steps of a phase, and the copies of its finished blocks.
-/
module

public import proofs.«01_k».proof.Proof.KernelIdeal.Mem
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-! ## What a ring holds between its steps -/

/-- A ring of a phase with the transfer of round `k` issued and not yet waited for. -/
def Ring (ph : Bool) (i : Fin 4) (c : Dev nD) (k : ℕ) : sProp 𝕄 :=
  iprop(atPos ER (cell c (.cr ph i)) (k + 1) ∅ 0 ∗ atPos ER (cell c (.rv ph i)) k ∅ 0 ∗ atPos ER (cell c (.sd ph i)) k ∅ 0
    ∗ cred (tallyAt (cell c (.sd ph i)) 0 N))
/-- A ring of a phase before its first transfer; after its last. -/
def Ring0 (ph : Bool) (i : Fin 4) (c : Dev nD) : sProp 𝕄 :=
  iprop(atPos ER (cell c (.cr ph i)) 0 ∅ 0 ∗ atPos ER (cell c (.rv ph i)) 0 ∅ 0 ∗ atPos ER (cell c (.sd ph i)) 0 ∅ 0
    ∗ reached ER (cell c (.sd ph i)) 0 ∗ slabAny (sndM ph) i c)
def RingE (ph : Bool) (i : Fin 4) (c : Dev nD) : sProp 𝕄 :=
  iprop(atPos ER (cell c (.cr ph i)) 31 ∅ 0 ∗ atPos ER (cell c (.rv ph i)) 31 ∅ 0 ∗ atPos ER (cell c (.sd ph i)) 31 ∅ 0
    ∗ slabAny (sndM ph) i c ∗ slabAny (rcvM ph) i c)

/-- The copies of ring `i`: the first `k` blocks made and the others still to come. -/
def Made (i : Fin 4) (c : Dev nD) (k : ℕ) : sProp 𝕄 :=
  iprop((bigSep (Finset.range k) fun r => outPts (seg i c (31 + r)) i c (outVal X W i r c))
    ∗ (bigSep (Finset.Ico k 32) fun r => dutyTok ER (cell c (.cp i)) r false)
    ∗ bigSep (Finset.Ico k 32) fun r => outAny (seg i c (31 + r)) i c)
/-- Its first `k` blocks waited for, nothing in flight; with copy `k` in flight. -/
def Cp (i : Fin 4) (c : Dev nD) (k : ℕ) : sProp 𝕄 :=
  iprop(atPos ER (cell c (.cp i)) k ∅ 0 ∗ reached ER (cell c (.cp i)) k ∗ slabAny stgM i c ∗ Made X W i c k)
def CpF (i : Fin 4) (c : Dev nD) (k : ℕ) : sProp 𝕄 :=
  iprop(atPos ER (cell c (.cp i)) k ∅ 0 ∗ cred (tallyAt (cell c (.cp i)) 0 NO)
    ∗ (bigSep (Finset.range k) fun r => outPts (seg i c (31 + r)) i c (outVal X W i r c))
    ∗ (bigSep (Finset.Ico (k + 1) 32) fun r => dutyTok ER (cell c (.cp i)) r false)
    ∗ bigSep (Finset.Ico (k + 1) 32) fun r => outAny (seg i c (31 + r)) i c)

variable (κ : Dev nD × K → ℕ) (c : Dev nD) {α : Type}
variable {S S' : Finset ℕ} {b d e k : ℕ} {ph : Bool} {i : Fin 4}

/-- Issuing copy `k` from the staging slab. -/
theorem cp_issue {Kt : α → sProp 𝕄} (hk : k < 32) {src : Memref sig .tc .vmem S256x1024 .f32} (hsrc : src = slab stgM i)
    {s : Fin 32} (hseg : s = seg i c (31 + k)) {dst : Memref sig .tc .hbm S256x1024 .f32} (hdst : dst = outB s i)
    {sR : DmaSem sig} (hsR : sR = cpS i) {v : S256x1024.Idx → Elt F .f32} (hv : v = outVal X W i k c) {h₁ h₂ h₃} {kont : PUnit → Pg F α} :
    iprop(Inv X W κ ∗ slabPts stgM i c v ∗ atPos ER (cell c (.cp i)) k ∅ 0 ∗ reached ER (cell c (.cp i)) k ∗ Made X W i c k)
      ⊢ iprop((CpF X W i c k -∗ WP c (kont ⟨⟩) Kt)
        -∗ WP c (.op (.enqueueDma src (.here dst) (.dma sR) h₁ h₂ h₃) kont) Kt) := by
  subst hseg
  have h1 := bigSep_Ico_succ_bot hk (fun r => (dutyTok ER (cell c (.cp i)) r false : sProp 𝕄))
  have h2 := bigSep_Ico_succ_bot hk (fun r => (outAny (seg i c (31 + r)) i c : sProp 𝕄))
  unfold Made CpF
  rw [h1, h2]
  iintro ⟨#HI, Hs, Hat, Hr, Hm, ⟨Ht, HT⟩, Ho, HO⟩ Hk
  iapply (copy_out X W κ c hk hsrc rfl hdst hsR hv) $$ [Hs Hr Ht Ho]
  · isplitr; · iexact HI
    isplitl [Hs]; · iexact Hs
    isplitl [Ho]; · iexact Ho
    isplitl [Ht]; · iexact Ht
    iexact Hr
  iintro Hc
  iapply Hk
  isplitl [Hat]; · iexact Hat
  isplitl [Hc]; · iexact Hc
  isplitl [Hm]; · iexact Hm
  isplitl [HT]; · iexact HT
  iexact HO

/-- Waiting for copy `k`. -/
theorem cp_wait {Kt : α → sProp 𝕄} (hk : k < 32) (hS : ∀ q ∈ S, q < 248) {sem : DmaSem sig} (hs : sem = cpS i)
    {sp sp' : Space} {s s' : Shape} {e₁ e' : EltTy} {src : Memref sig .tc sp' s' e'} {dst : Memref sig .tc sp s e₁}
    {h₁ : src.view.WordExact} {h₂ : dst.view.WordExact} (hd : dst.view.dmaCredit = NO) {kont : PUnit → Pg F α} :
    iprop(Inv X W κ ∗ G c S b d e ∗ CpF X W i c k)
      ⊢ iprop(((G c S b d e ∗ Cp X W i c (k + 1)) -∗ WP c (kont ⟨⟩) Kt)
          -∗ WP c (.op (.waitDma2 sem src dst h₁ h₂) kont) Kt) := by
  have h1 := bigSep_range_succ k (fun r => (outPts (seg i c (31 + r)) i c (outVal X W i r c) : sProp 𝕄))
  unfold Cp Made CpF
  rw [h1]
  iintro ⟨#HI, HG, Hat, Hc, Hm, HT, HO⟩ Hk
  iapply (wait_cp X W κ c hk hS hs hd) $$ [HG Hat Hc]
  · isplitr; · iexact HI
    isplitl [HG]; · iexact HG
    isplitl [Hat]; · iexact Hat
    iexact Hc
  iintro ⟨HG, Hat, Hs, Ho, Hr⟩
  iapply Hk
  isplitl [HG]; · iexact HG
  isplitl [Hat]; · iexact Hat
  isplitl [Hr]; · iexact Hr
  isplitl [Hs]; · iexact Hs
  isplitl [Hm Ho]
  · isplitl [Ho]; · iexact Ho
    iexact Hm
  isplitl [HT]; · iexact HT
  iexact HO

end Cert.RingKernelIdeal
-- ==== Proof.KernelIdeal.Chains.lean ====
/-
# One step of a ring

The operations one step of the reduce-scatter or of the all-gather performs, as one rule each.
-/
module

public import proofs.«01_k».proof.Proof.KernelIdeal.Steps
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

theorem Q_succ (ph : Bool) (i : Fin 4) (k : ℕ) : Q ph i (k + 1) = Q ph i k + 4 := by unfold Q; omega

/-- The round trip of a stored slab's casts. -/
theorem up_down {e' : EltTy} (v : Vec F S256x1024 e') : shapeCast S256x1024 (shapeCast S1x256x1024 v hcU) hcD = v :=
  shapeCast_shapeCast v hcU hcD

variable (κ : Dev nD × K → ℕ) (c : Dev nD) {α : Type}
variable {S S' : Finset ℕ} {b d e k : ℕ} {ph : Bool} {i : Fin 4}

theorem slab_credit_snd (ph : Bool) (i : Fin 4) : (slab (sndM ph) i).view.dmaCredit = N := by cases ph <;> rfl

theorem WP_ret {β : Type} (c : Dev nD) {Kt : β → sProp 𝕄} {a : β} : Kt a ⊢ WP c (.ret a : Pg F β) Kt := by
  show _ ⊢ iprop(|={Set.univ}[frame]=> Kt a)
  iintro H; imodintro; iexact H

omit [FloatOps F] in
theorem outB_eq {off : Fin 2 → ℕ} {s : Fin 32} {i : Fin 4} (h : off = ![256 * s.val, 1024 * i.val]) {hin} :
    outM.slice (Rect.unit (s := S8192x4096) off S256x1024.size hin) (fun _ => rfl) = outB s i := by subst h; rfl

/-- A first transfer: the slab filled, the permission taken, the slab sent. -/
theorem start_step {Kt : α → sProp 𝕄} (hb : b = Q ph i 0) (hS : ∀ q ∈ S, b < q ∧ q < 248)
    {n : Dev nD} (hn : n = tgt i c) {w : S1x256x1024.Idx → Elt F .bf16} (hv : shapeCast S256x1024 w hcD = sent X W ph i 0 c)
    {hin₁ hx₁ hm₁ hin₂ hl₂ hsc h₁ h₂ h₃} {kont : PUnit → Pg F α} :
    iprop(Inv X W κ ∗ G c S b b e ∗ Ring0 ph i c)
      ⊢ iprop(((G c S (b + 1) (b + 1) e ∗ Ring ph i c 0) -∗ WP c (kont ⟨⟩) Kt)
        -∗ WP c (.op (.load (sndM ph) (Rect.unit (s := S4x256x1024) ![i.val, 0, 0] S1x256x1024.size hin₂).toLoadRect hl₂) fun _ =>
            .op (.store (sndM ph) (Rect.unit (s := S4x256x1024) ![i.val, 0, 0] S1x256x1024.size hin₁) w Finset.univ hx₁ hm₁) fun _ =>
            .op (.semWait (crS ph i) 1) fun _ =>
            .op (.enqueueDma (slab (sndM ph) i) (.remote (Dev.tc n) (slab (rcvM ph) i) (.dma (sdS ph i)) hsc) (.dma (rvS ph i)) h₁ h₂ h₃) kont) Kt) := by
  subst hb
  unfold Ring0 Ring
  iintro ⟨#HI, HG, Hc, Hr, Hd, #Hr0, Hs⟩ Hk
  iapply (slab_load_any c rfl) $$ [Hs]
  · iexact Hs
  iintro %u Hs
  iapply (slab_store c rfl hv) $$ [Hs]
  · iexact Hs
  iintro Hs
  iapply (wait_cr X W κ c (k := 0) (by omega) (fun q h => ⟨(hS q h).2, (hS q h).1⟩) le_rfl rfl rfl) $$ [HG Hc]
  · isplitr; · iexact HI
    isplitl [HG]; · iexact HG
    iexact Hc
  iintro ⟨HG, Hc, Hrt, #Hrr, #Hcr⟩
  iapply (send X W κ c (k := 0) (by omega) hn rfl rfl rfl rfl) $$ [HG Hs Hrt]
  · isplitr; · iexact HI
    isplitl [HG]; · iexact HG
    isplitl [Hs]; · iexact Hs
    isplitl [Hrt]; · iexact Hrt
    isplitr; · iexact Hrr
    isplitr; · iexact Hcr
    iexact Hr0
  iintro ⟨HG, Hcd⟩
  iapply Hk
  isplitl [HG]; · iexact HG
  isplitl [Hc]; · iexact Hc
  isplitl [Hr]; · iexact Hr
  isplitl [Hd]; · iexact Hd
  iexact Hcd

/-- A step of the reduce-scatter: round `k` received, the sum with the own contribution sent as round `k + 1`. -/
theorem rs_step {Kt : α → sProp 𝕄} (hk : k + 1 < 31) (he : e = Q false i k) (hb : b = Q false i (k + 1)) (h : S = insert b S')
    (hS' : ∀ q ∈ S', b < q ∧ q < 248) {n n' : Dev nD} (hn : n = ups i c) (hn' : n' = tgt i c)
    {pay : (S1x256x1024.Idx → Elt F .bf16) → S1x256x1024.Idx → Elt F .bf16}
    (hpay : ∀ u, shapeCast S256x1024 (pay u) hcD = down (addTo (shapeCast S256x1024 u hcD) (part X W c (seg i c (k + 1)) i)))
    {sp₁ sp₂ : Space} {s₁ s₂ : Shape} {e₁ e₂ : EltTy} {src₁ : Memref sig .tc sp₁ s₁ e₁} {src₂ : Memref sig .tc sp₂ s₂ e₂}
    {a₁ a₂ a₃ a₄ a₅ a₆ a₇ a₈ a₉ b₁ b₂ hsc h₁ h₂ h₃} {kont : PUnit → Pg F α} :
    iprop(Inv X W κ ∗ G c S b b e ∗ Ring false i c k)
      ⊢ iprop(((G c S' (b + 1) (b + 1) (e + 1) ∗ Ring false i c (k + 1)) -∗ WP c (kont ⟨⟩) Kt)
        -∗ WP c (.op (.waitDma2 (rvS false i) src₁ (slab (rcvM false) i) a₁ a₂) fun _ =>
            .op (.load (rcvM false) (Rect.unit (s := S4x256x1024) ![i.val, 0, 0] S1x256x1024.size a₃).toLoadRect a₄) fun u =>
            .op (.waitDma2 (sdS false i) src₂ (slab (sndM false) i) a₅ a₆) fun _ =>
            .op (.load (sndM false) (Rect.unit (s := S4x256x1024) ![i.val, 0, 0] S1x256x1024.size a₇).toLoadRect a₈) fun _ =>
            .op (.store (sndM false) (Rect.unit (s := S4x256x1024) ![i.val, 0, 0] S1x256x1024.size a₉) (pay u) Finset.univ b₁ b₂) fun _ =>
            .op (.semSignal ((n, Proc.tc) : Thread nD τ) (crS false i) 1) fun _ =>
            .op (.semWait (crS false i) 1) fun _ =>
            .op (.enqueueDma (slab (sndM false) i) (.remote (Dev.tc n') (slab (rcvM false) i) (.dma (sdS false i)) hsc) (.dma (rvS false i)) h₁ h₂ h₃) kont) Kt) := by
  subst he hb
  have hq := Q_succ false i k
  have hl := Q_lt false i hk
  have hS : ∀ q ∈ S, q < 248 ∧ Q false i k < q := by
    rw [h]; intro q hq'
    rcases Finset.mem_insert.1 hq' with rfl | hq'
    · omega
    · have := hS' q hq'; omega
  unfold Ring
  iintro ⟨#HI, HG, Hc, Hr, Hd, Hcd⟩ Hk
  iapply (wait_rv X W κ c (ph := false) (b := Q false i (k + 1)) (k := k) (by omega) hS (by omega) rfl (slab_credit false i)) $$ [HG Hr]
  · isplitr; · iexact HI
    isplitl [HG]; · iexact HG
    iexact Hr
  iintro ⟨HG, Hr, Hrc, #Hup, #Hrv⟩
  iapply (slab_load c rfl) $$ [Hrc]
  · iexact Hrc
  iintro %u %hu Hrc
  iapply (wait_sd X W κ c (k := k) (by omega) (fun q h => (hS q h).1) rfl (slab_credit_snd false i)) $$ [HG Hd Hcd]
  · isplitr; · iexact HI
    isplitl [HG]; · iexact HG
    isplitl [Hd]; · iexact Hd
    iexact Hcd
  iintro ⟨HG, Hd, Hs, #Hsd⟩
  iapply (slab_load_any c rfl) $$ [Hs]
  · iexact Hs
  iintro %u' Hs
  iapply (slab_store c rfl (v := sent X W false i (k + 1) c) (by rw [hpay, hu]; rfl)) $$ [Hs]
  · iexact Hs
  iintro Hs
  ihave Hrc := (slabPts_any (rcvM false) i c _) $$ Hrc
  iapply (signal_cr X W κ c hk h (fun hm => absurd (hS' _ hm).1 (lt_irrefl _)) hn rfl rfl) $$ [HG Hrc]
  · isplitr; · iexact HI
    isplitl [HG]; · iexact HG
    isplitl [Hrc]; · iexact Hrc
    isplitr; · iexact Hrv
    iexact Hup
  iintro HG
  iapply (wait_cr X W κ c hk (fun q h => ⟨(hS' q h).2, (hS' q h).1⟩) le_rfl rfl rfl) $$ [HG Hc]
  · isplitr; · iexact HI
    isplitl [HG]; · iexact HG
    iexact Hc
  iintro ⟨HG, Hc, Hrt, #Hrr, #Hcr⟩
  iapply (send X W κ c hk hn' rfl rfl rfl rfl) $$ [HG Hs Hrt]
  · isplitr; · iexact HI
    isplitl [HG]; · iexact HG
    isplitl [Hs]; · iexact Hs
    isplitl [Hrt]; · iexact Hrt
    isplitr; · iexact Hrr
    isplitr; · iexact Hcr
    iexact Hsd
  iintro ⟨HG, Hcd⟩
  iapply Hk
  isplitl [HG]; · iexact HG
  isplitl [Hc]; · iexact Hc
  isplitl [Hr]; · iexact Hr
  isplitl [Hd]; · iexact Hd
  iexact Hcd

/-- The last step of the reduce-scatter: the block finished, copied to the result and sent as the all-gather's first. -/
theorem rs_final {Kt : α → sProp 𝕄} (he : e = Q false i 30) (hb : b = Q true i 0)
    (hS : ∀ q ∈ S, b < q ∧ q < 248) {n' : Dev nD} (hn' : n' = tgt i c)
    {offx : Fin 2 → ℕ} (hox : offx = ![256 * (seg i c 31).val, 0]) {offw : Fin 2 → ℕ} (how : offw = ![0, 1024 * i.val])
    {payF : (S256x256.Idx → Elt F .bf16) → (S256x1024.Idx → Elt F .bf16) → (S1x256x1024.Idx → Elt F .bf16) → S1x256x1024.Idx → Elt F .f32}
    {payB : (S256x256.Idx → Elt F .bf16) → (S256x1024.Idx → Elt F .bf16) → (S1x256x1024.Idx → Elt F .bf16) → S1x256x1024.Idx → Elt F .bf16}
    (hpF : ∀ x w u, shapeCast S256x1024 (payF x w u) hcD
      = maximumf (addTo (shapeCast S256x1024 u hcD) (k0_pay1 x w)) (broadcast S256x1024 (Scalar.ofBits .f32 0x00000000#32)))
    (hpB : ∀ x w u, shapeCast S256x1024 (payB x w u) hcD
      = down (maximumf (addTo (shapeCast S256x1024 u hcD) (k0_pay1 x w)) (broadcast S256x1024 (Scalar.ofBits .f32 0x00000000#32))))
    {offo : Fin 2 → ℕ} (hoo : offo = ![256 * (seg i c (31 + 0)).val, 1024 * i.val]) {o₁}
    {sp₁ sp₂ : Space} {s₁ s₂ : Shape} {e₁ e₂ : EltTy} {src₁ : Memref sig .tc sp₁ s₁ e₁} {src₂ : Memref sig .tc sp₂ s₂ e₂}
    {a₁ a₂ a₃ a₄ a₅ a₆ a₇ a₈ a₉ b₁ b₂ c₁ c₂ c₃ c₄ c₅ d₁ d₂ d₃ d₄ g₁ g₂ g₃ hsc h₁ h₂ h₃} {kont : PUnit → Pg F α} :
    iprop(Inv X W κ ∗ opPts X W c ∗ G c S b b e ∗ Ring false i c 30 ∗ Ring0 true i c ∗ Cp X W i c 0)
      ⊢ iprop(((opPts X W c ∗ G c S (b + 1) (b + 1) (e + 1) ∗ RingE false i c ∗ Ring true i c 0 ∗ CpF X W i c 0) -∗ WP c (kont ⟨⟩) Kt)
        -∗ WP c (.op (.waitDma2 (rvS false i) src₁ (slab (rcvM false) i) a₁ a₂) fun _ =>
            .op (.load xM (Rect.unit (s := S8192x256) offx S256x256.size d₁).toLoadRect d₂) fun x =>
            .op (.load wM (Rect.unit (s := S256x4096) offw S256x1024.size d₃).toLoadRect d₄) fun w =>
            .op (.load (rcvM false) (Rect.unit (s := S4x256x1024) ![i.val, 0, 0] S1x256x1024.size a₃).toLoadRect a₄) fun u =>
            .op (.waitDma2 (sdS false i) src₂ (slab (sndM false) i) a₅ a₆) fun _ =>
            .op (.load stgM (Rect.unit (s := S4x256x1024) ![i.val, 0, 0] S1x256x1024.size a₇).toLoadRect a₈) fun _ =>
            .op (.store stgM (Rect.unit (s := S4x256x1024) ![i.val, 0, 0] S1x256x1024.size a₉) (payF x w u) Finset.univ b₁ b₂) fun _ =>
            .op (.load (sndM true) (Rect.unit (s := S4x256x1024) ![i.val, 0, 0] S1x256x1024.size c₁).toLoadRect c₂) fun _ =>
            .op (.store (sndM true) (Rect.unit (s := S4x256x1024) ![i.val, 0, 0] S1x256x1024.size c₃) (payB x w u) Finset.univ c₄ c₅) fun _ =>
            .op (.enqueueDma (slab stgM i) (.here (outM.slice (Rect.unit (s := S8192x4096) offo S256x1024.size o₁) (fun _ => rfl))) (.dma (cpS i)) g₁ g₂ g₃) fun _ =>
            .op (.semWait (crS true i) 1) fun _ =>
            .op (.enqueueDma (slab (sndM true) i) (.remote (Dev.tc n') (slab (rcvM true) i) (.dma (sdS true i)) hsc) (.dma (rvS true i)) h₁ h₂ h₃) kont) Kt) := by
  subst he hb
  have hq : Q true i 0 = Q false i 30 + 4 := by unfold Q; simp; omega
  have hS2 : ∀ q ∈ S, q < 248 ∧ Q false i 30 < q := fun q h => by have := hS q h; omega
  unfold Ring Ring0 RingE Cp
  iintro ⟨#HI, Hop, HG, ⟨Hc, Hr, Hd, Hcd⟩, ⟨Hc', Hr', Hd', #Hsd', Hs'⟩, ⟨Hca, #Hcr0, Hst, Hm⟩⟩ Hk
  iapply (wait_rv X W κ c (ph := false) (b := Q true i 0) (k := 30) (by omega) hS2 (by omega) rfl (slab_credit false i)) $$ [HG Hr]
  · isplitr; · iexact HI
    isplitl [HG]; · iexact HG
    iexact Hr
  iintro ⟨HG, Hr, Hrc, -, -⟩
  iapply (x_load X W c hox) $$ [Hop]
  · iexact Hop
  iintro Hop
  iapply (w_load X W c i how) $$ [Hop]
  · iexact Hop
  iintro Hop
  iapply (slab_load c rfl) $$ [Hrc]
  · iexact Hrc
  iintro %u %hu Hrc
  iapply (wait_sd X W κ c (k := 30) (by omega) (fun q h => (hS2 q h).1) rfl (slab_credit_snd false i)) $$ [HG Hd Hcd]
  · isplitr; · iexact HI
    isplitl [HG]; · iexact HG
    isplitl [Hd]; · iexact Hd
    iexact Hcd
  iintro ⟨HG, Hd, Hs, -⟩
  iapply (slab_load_any c rfl) $$ [Hst]
  · iexact Hst
  iintro %u' Hst
  iapply (slab_store c rfl (v := outVal X W i 0 c) (by rw [hpF, hu]; rfl)) $$ [Hst]
  · iexact Hst
  iintro Hst
  iapply (slab_load_any c rfl) $$ [Hs']
  · iexact Hs'
  iintro %u'' Hs'
  iapply (slab_store c rfl (v := sent X W true i 0 c) (by rw [hpB, hu]; rfl)) $$ [Hs']
  · iexact Hs'
  iintro Hs'
  iapply (cp_issue X W κ c (k := 0) (by omega) rfl rfl (outB_eq hoo) rfl rfl) $$ [Hst Hca Hm]
  · isplitr; · iexact HI
    isplitl [Hst]; · iexact Hst
    isplitl [Hca]; · iexact Hca
    isplitr; · iexact Hcr0
    iexact Hm
  iintro HF
  iapply (wait_cr X W κ c (k := 0) (by omega) (fun q h => ⟨(hS q h).2, (hS q h).1⟩) le_rfl rfl rfl) $$ [HG Hc']
  · isplitr; · iexact HI
    isplitl [HG]; · iexact HG
    iexact Hc'
  iintro ⟨HG, Hc', Hrt, #Hrr, #Hcr⟩
  iapply (send X W κ c (k := 0) (by omega) hn' rfl rfl rfl rfl) $$ [HG Hs' Hrt]
  · isplitr; · iexact HI
    isplitl [HG]; · iexact HG
    isplitl [Hs']; · iexact Hs'
    isplitl [Hrt]; · iexact Hrt
    isplitr; · iexact Hrr
    isplitr; · iexact Hcr
    iexact Hsd'
  iintro ⟨HG, Hcd⟩
  ihave Hrc := (slabPts_any (rcvM false) i c _) $$ Hrc
  iapply Hk
  isplitl [Hop]; · iexact Hop
  isplitl [HG]; · iexact HG
  isplitl [Hc Hr Hd Hs Hrc]
  · isplitl [Hc]; · iexact Hc
    isplitl [Hr]; · iexact Hr
    isplitl [Hd]; · iexact Hd
    isplitl [Hs]; · iexact Hs
    iexact Hrc
  isplitr [HF]
  · isplitl [Hc']; · iexact Hc'
    isplitl [Hr']; · iexact Hr'
    isplitl [Hd']; · iexact Hd'
    iexact Hcd
  iexact HF

/-- A step of the all-gather: round `k` received, sent on as round `k + 1` and copied to the result. -/
theorem ag_step {Kt : α → sProp 𝕄} (hk : k + 1 < 31) (he : e = Q true i k) (hb : b = Q true i (k + 1)) (h : S = insert b S')
    (hS' : ∀ q ∈ S', b < q ∧ q < 248) {n n' : Dev nD} (hn : n = ups i c) (hn' : n' = tgt i c)
    {pay : (S1x256x1024.Idx → Elt F .bf16) → S1x256x1024.Idx → Elt F .bf16}
    {payF : (S1x256x1024.Idx → Elt F .bf16) → S1x256x1024.Idx → Elt F .f32}
    (hpay : ∀ u, shapeCast S256x1024 (pay u) hcD = shapeCast S256x1024 u hcD)
    (hpF : ∀ u, shapeCast S256x1024 (payF u) hcD = wide (shapeCast S256x1024 u hcD))
    {offo : Fin 2 → ℕ} (hoo : offo = ![256 * (seg i c (31 + (k + 1))).val, 1024 * i.val]) {o₁}
    {offp : Fin 2 → ℕ} {p₁}
    {sp₁ sp₂ sp₃ : Space} {s₁ s₂ s₃ : Shape} {e₁ e₂ e₃ : EltTy} {src₁ : Memref sig .tc sp₁ s₁ e₁} {src₂ : Memref sig .tc sp₂ s₂ e₂} {src₃ : Memref sig .tc sp₃ s₃ e₃}
    {a₁ a₂ a₃ a₄ a₅ a₆ a₇ a₈ a₉ b₁ b₂ c₁ c₂ c₃ c₄ c₅ d₁ d₂ g₁ g₂ g₃ hsc h₁ h₂ h₃} {kont : PUnit → Pg F α} :
    iprop(Inv X W κ ∗ G c S b b e ∗ Ring true i c k ∗ CpF X W i c k)
      ⊢ iprop(((G c S' (b + 1) (b + 1) (e + 1) ∗ Ring true i c (k + 1) ∗ CpF X W i c (k + 1)) -∗ WP c (kont ⟨⟩) Kt)
        -∗ WP c (.op (.waitDma2 (rvS true i) src₁ (slab (rcvM true) i) a₁ a₂) fun _ =>
            .op (.waitDma2 (cpS i) src₃ (outM.slice (Rect.unit (s := S8192x4096) offp S256x1024.size p₁) (fun _ => rfl)) d₁ d₂) fun _ =>
            .op (.waitDma2 (sdS true i) src₂ (slab (sndM true) i) a₅ a₆) fun _ =>
            .op (.load (rcvM true) (Rect.unit (s := S4x256x1024) ![i.val, 0, 0] S1x256x1024.size a₃).toLoadRect a₄) fun u =>
            .op (.load (sndM true) (Rect.unit (s := S4x256x1024) ![i.val, 0, 0] S1x256x1024.size a₇).toLoadRect a₈) fun _ =>
            .op (.store (sndM true) (Rect.unit (s := S4x256x1024) ![i.val, 0, 0] S1x256x1024.size a₉) (pay u) Finset.univ b₁ b₂) fun _ =>
            .op (.load stgM (Rect.unit (s := S4x256x1024) ![i.val, 0, 0] S1x256x1024.size c₁).toLoadRect c₂) fun _ =>
            .op (.store stgM (Rect.unit (s := S4x256x1024) ![i.val, 0, 0] S1x256x1024.size c₃) (payF u) Finset.univ c₄ c₅) fun _ =>
            .op (.semSignal ((n, Proc.tc) : Thread nD τ) (crS true i) 1) fun _ =>
            .op (.semWait (crS true i) 1) fun _ =>
            .op (.enqueueDma (slab (sndM true) i) (.remote (Dev.tc n') (slab (rcvM true) i) (.dma (sdS true i)) hsc) (.dma (rvS true i)) h₁ h₂ h₃) fun _ =>
            .op (.enqueueDma (slab stgM i) (.here (outM.slice (Rect.unit (s := S8192x4096) offo S256x1024.size o₁) (fun _ => rfl))) (.dma (cpS i)) g₁ g₂ g₃) kont) Kt) := by
  subst he hb
  have hq := Q_succ true i k
  have hl := Q_lt true i hk
  have hS : ∀ q ∈ S, q < 248 ∧ Q true i k < q := by
    rw [h]; intro q hq'
    rcases Finset.mem_insert.1 hq' with rfl | hq'
    · omega
    · have := hS' q hq'; omega
  unfold Ring
  iintro ⟨#HI, HG, ⟨Hc, Hr, Hd, Hcd⟩, HF⟩ Hk
  iapply (wait_rv X W κ c (ph := true) (b := Q true i (k + 1)) (k := k) (by omega) hS (by omega) rfl (slab_credit true i)) $$ [HG Hr]
  · isplitr; · iexact HI
    isplitl [HG]; · iexact HG
    iexact Hr
  iintro ⟨HG, Hr, Hrc, #Hup, #Hrv⟩
  iapply (cp_wait X W κ c (h₁ := d₁) (h₂ := d₂) (k := k) (by omega) (fun q h => (hS q h).1) rfl rfl) $$ [HG HF]
  · isplitr; · iexact HI
    isplitl [HG]; · iexact HG
    iexact HF
  iintro ⟨HG, HF⟩
  iapply (wait_sd X W κ c (k := k) (by omega) (fun q h => (hS q h).1) rfl (slab_credit_snd true i)) $$ [HG Hd Hcd]
  · isplitr; · iexact HI
    isplitl [HG]; · iexact HG
    isplitl [Hd]; · iexact Hd
    iexact Hcd
  iintro ⟨HG, Hd, Hs, #Hsd⟩
  iapply (slab_load c rfl) $$ [Hrc]
  · iexact Hrc
  iintro %u %hu Hrc
  iapply (slab_load_any c rfl) $$ [Hs]
  · iexact Hs
  iintro %u' Hs
  iapply (slab_store c rfl (v := sent X W true i (k + 1) c) (by rw [hpay, hu]; rfl)) $$ [Hs]
  · iexact Hs
  iintro Hs
  unfold Cp
  icases HF with ⟨Hca, #Hcr1, Hst, Hm⟩
  iapply (slab_load_any c rfl) $$ [Hst]
  · iexact Hst
  iintro %u'' Hst
  iapply (slab_store c rfl (v := outVal X W i (k + 1) c) (by rw [hpF, hu]; rfl)) $$ [Hst]
  · iexact Hst
  iintro Hst
  ihave Hrc := (slabPts_any (rcvM true) i c _) $$ Hrc
  iapply (signal_cr X W κ c hk h (fun hm => absurd (hS' _ hm).1 (lt_irrefl _)) hn rfl rfl) $$ [HG Hrc]
  · isplitr; · iexact HI
    isplitl [HG]; · iexact HG
    isplitl [Hrc]; · iexact Hrc
    isplitr; · iexact Hrv
    iexact Hup
  iintro HG
  iapply (wait_cr X W κ c hk (fun q h => ⟨(hS' q h).2, (hS' q h).1⟩) le_rfl rfl rfl) $$ [HG Hc]
  · isplitr; · iexact HI
    isplitl [HG]; · iexact HG
    iexact Hc
  iintro ⟨HG, Hc, Hrt, #Hrr, #Hcr⟩
  iapply (send X W κ c hk hn' rfl rfl rfl rfl) $$ [HG Hs Hrt]
  · isplitr; · iexact HI
    isplitl [HG]; · iexact HG
    isplitl [Hs]; · iexact Hs
    isplitl [Hrt]; · iexact Hrt
    isplitr; · iexact Hrr
    isplitr; · iexact Hcr
    iexact Hsd
  iintro ⟨HG, Hcd⟩
  iapply (cp_issue X W κ c (k := k + 1) (by omega) rfl rfl (outB_eq hoo) rfl rfl) $$ [Hst Hca Hm]
  · isplitr; · iexact HI
    isplitl [Hst]; · iexact Hst
    isplitl [Hca]; · iexact Hca
    isplitr; · iexact Hcr1
    iexact Hm
  iintro HF
  iapply Hk
  isplitl [HG]; · iexact HG
  isplitr [HF]
  · isplitl [Hc]; · iexact Hc
    isplitl [Hr]; · iexact Hr
    isplitl [Hd]; · iexact Hd
    iexact Hcd
  iexact HF

/-- The last step of the all-gather: the last block received and copied to the result. -/
theorem ag_final {Kt : α → sProp 𝕄} (he : e = Q true i 30) (hb : Q true i 30 < b) (hS : ∀ q ∈ S, Q true i 30 < q ∧ q < 248)
    {payF : (S1x256x1024.Idx → Elt F .bf16) → S1x256x1024.Idx → Elt F .f32}
    (hpF : ∀ u, shapeCast S256x1024 (payF u) hcD = wide (shapeCast S256x1024 u hcD))
    {offo : Fin 2 → ℕ} (hoo : offo = ![256 * (seg i c (31 + 31)).val, 1024 * i.val]) {o₁}
    {offp : Fin 2 → ℕ} {p₁}
    {sp₁ sp₂ sp₃ : Space} {s₁ s₂ s₃ : Shape} {e₁ e₂ e₃ : EltTy} {src₁ : Memref sig .tc sp₁ s₁ e₁} {src₂ : Memref sig .tc sp₂ s₂ e₂} {src₃ : Memref sig .tc sp₃ s₃ e₃}
    {a₁ a₂ a₃ a₄ a₅ a₆ c₁ c₂ c₃ c₄ c₅ d₁ d₂ g₁ g₂ g₃} {kont : PUnit → Pg F α} :
    iprop(Inv X W κ ∗ G c S b d e ∗ Ring true i c 30 ∗ CpF X W i c 30)
      ⊢ iprop(((G c S b d (e + 1) ∗ RingE true i c ∗ CpF X W i c 31) -∗ WP c (kont ⟨⟩) Kt)
        -∗ WP c (.op (.waitDma2 (rvS true i) src₁ (slab (rcvM true) i) a₁ a₂) fun _ =>
            .op (.waitDma2 (cpS i) src₃ (outM.slice (Rect.unit (s := S8192x4096) offp S256x1024.size p₁) (fun _ => rfl)) d₁ d₂) fun _ =>
            .op (.waitDma2 (sdS true i) src₂ (slab (sndM true) i) a₅ a₆) fun _ =>
            .op (.load (rcvM true) (Rect.unit (s := S4x256x1024) ![i.val, 0, 0] S1x256x1024.size a₃).toLoadRect a₄) fun u =>
            .op (.load stgM (Rect.unit (s := S4x256x1024) ![i.val, 0, 0] S1x256x1024.size c₁).toLoadRect c₂) fun _ =>
            .op (.store stgM (Rect.unit (s := S4x256x1024) ![i.val, 0, 0] S1x256x1024.size c₃) (payF u) Finset.univ c₄ c₅) fun _ =>
            .op (.enqueueDma (slab stgM i) (.here (outM.slice (Rect.unit (s := S8192x4096) offo S256x1024.size o₁) (fun _ => rfl))) (.dma (cpS i)) g₁ g₂ g₃) kont) Kt) := by
  subst he
  have hS2 : ∀ q ∈ S, q < 248 ∧ Q true i 30 < q := fun q h => ⟨(hS q h).2, (hS q h).1⟩
  unfold Ring RingE
  iintro ⟨#HI, HG, ⟨Hc, Hr, Hd, Hcd⟩, HF⟩ Hk
  iapply (wait_rv X W κ c (k := 30) (by omega) hS2 hb rfl (slab_credit true i)) $$ [HG Hr]
  · isplitr; · iexact HI
    isplitl [HG]; · iexact HG
    iexact Hr
  iintro ⟨HG, Hr, Hrc, -, -⟩
  iapply (cp_wait X W κ c (h₁ := d₁) (h₂ := d₂) (k := 30) (by omega) (fun q h => (hS2 q h).1) rfl rfl) $$ [HG HF]
  · isplitr; · iexact HI
    isplitl [HG]; · iexact HG
    iexact HF
  iintro ⟨HG, HF⟩
  iapply (wait_sd X W κ c (k := 30) (by omega) (fun q h => (hS2 q h).1) rfl (slab_credit_snd true i)) $$ [HG Hd Hcd]
  · isplitr; · iexact HI
    isplitl [HG]; · iexact HG
    isplitl [Hd]; · iexact Hd
    iexact Hcd
  iintro ⟨HG, Hd, Hs, -⟩
  iapply (slab_load c rfl) $$ [Hrc]
  · iexact Hrc
  iintro %u %hu Hrc
  unfold Cp
  icases HF with ⟨Hca, #Hcr1, Hst, Hm⟩
  iapply (slab_load_any c rfl) $$ [Hst]
  · iexact Hst
  iintro %u'' Hst
  iapply (slab_store c rfl (v := outVal X W i (30 + 1) c) (by rw [hpF, hu]; rfl)) $$ [Hst]
  · iexact Hst
  iintro Hst
  iapply (cp_issue X W κ c (k := 30 + 1) (by omega) rfl rfl (outB_eq hoo) rfl rfl) $$ [Hst Hca Hm]
  · isplitr; · iexact HI
    isplitl [Hst]; · iexact Hst
    isplitl [Hca]; · iexact Hca
    isplitr; · iexact Hcr1
    iexact Hm
  iintro HF
  ihave Hrc := (slabPts_any (rcvM true) i c _) $$ Hrc
  iapply Hk
  isplitl [HG]; · iexact HG
  isplitr [HF]
  · isplitl [Hc]; · iexact Hc
    isplitl [Hr]; · iexact Hr
    isplitl [Hd]; · iexact Hd
    isplitl [Hs]; · iexact Hs
    iexact Hrc
  iexact HF

/-- Waiting for the last copy. -/
theorem cp_last {Kt : α → sProp 𝕄} (hS : ∀ q ∈ S, q < 248) {offp : Fin 2 → ℕ} {p₁}
    {sp₃ : Space} {s₃ : Shape} {e₃ : EltTy} {src₃ : Memref sig .tc sp₃ s₃ e₃} {d₁ d₂} {kont : PUnit → Pg F α} :
    iprop(Inv X W κ ∗ G c S b d e ∗ CpF X W i c 31)
      ⊢ iprop(((G c S b d e ∗ Cp X W i c 32) -∗ WP c (kont ⟨⟩) Kt)
        -∗ WP c (.op (.waitDma2 (cpS i) src₃ (outM.slice (Rect.unit (s := S8192x4096) offp S256x1024.size p₁) (fun _ => rfl)) d₁ d₂) kont) Kt) :=
  cp_wait X W κ c (h₁ := d₁) (h₂ := d₂) (k := 31) (by omega) hS rfl rfl

end Cert.RingKernelIdeal
-- ==== Proof.KernelIdeal.Trip1.lean ====
/-
# The reduce-scatter's loop

What a device holds between two trips of the first loop, and one trip.
-/
module

public import proofs.«01_k».proof.Proof.KernelIdeal.Chains
public import proofs.«01_k».proof.Proof.KernelIdeal.Off
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-- The credits still to be signalled from number `p` on: those of the all-gather's first transfers are signalled at the start. -/
def SC (p : ℕ) : Finset ℕ := (Finset.range 248).filter fun q => p ≤ q ∧ ¬(124 ≤ q ∧ q < 128)

theorem mem_SC {p q : ℕ} : q ∈ SC p ↔ q < 248 ∧ p ≤ q ∧ ¬(124 ≤ q ∧ q < 128) := by simp [SC]
theorem SC_insert {p : ℕ} (h : p < 248) (h' : ¬(124 ≤ p ∧ p < 128)) : SC p = insert p (SC (p + 1)) := by
  ext q; rw [Finset.mem_insert, mem_SC, mem_SC]; omega
theorem SC_after {p : ℕ} : ∀ q ∈ SC (p + 1), p < q ∧ q < 248 := fun q h => by rw [mem_SC] at h; omega
theorem SC_124 : SC 124 = SC 128 := by ext q; rw [mem_SC, mem_SC]; omega
theorem SC_248 : SC 248 = ∅ := by ext q; simp [mem_SC]; omega

theorem Q_false (i : Fin 4) (k : ℕ) : Q false i k = 4 * k + (ringAt i).val := by unfold Q; simp
theorem Q_true (i : Fin 4) (k : ℕ) : Q true i k = 4 * k + 124 + (ringAt i).val := by unfold Q; simp; omega

/-- Between trips: round `t` of every ring in flight. -/
def I1 (κ : Dev nD × K → ℕ) (c : Dev nD) (t : ℕ) : sProp 𝕄 :=
  iprop(Inv X W κ ∗ opPts X W c ∗ G c (SC (4 * t + 4)) (4 * t + 4) (4 * t + 4) (4 * t)
    ∗ Ring false 0 c t ∗ Ring false 2 c t ∗ Ring false 1 c t ∗ Ring false 3 c t)

variable (κ : Dev nD × K → ℕ) (c : Dev nD)

set_option maxHeartbeats 0 in
theorem trip1 (v58 v96 v135 v255 z : BitVec 32) (t : Fin k0_t1_loop.trips) (u : Unit) :
    I1 X W κ c t.val ⊢ WP c (k0_t1_body (F := F) xM (hstage0_0 0) wM (hstage0_1 0) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v58 v96 v135 v255 z t u) fun _ => I1 X W κ c (t.val + 1) := by
  have ht : t.val < 30 := lt_of_lt_of_eq t.isLt (by decide)
  unfold k0_t1_body
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret]
  unfold I1
  iintro ⟨#HI, Hop, HG, HR0, HR2, HR1, HR3⟩
  iapply (x_load X W c (off2_down c t)) $$ [Hop]
  · iexact Hop
  iintro Hop
  iapply (w_load X W c 0 rfl) $$ [Hop]
  · iexact Hop
  iintro Hop
  iapply (x_load X W c (off2_up c t)) $$ [Hop]
  · iexact Hop
  iintro Hop
  iapply (w_load X W c 2 rfl) $$ [Hop]
  · iexact Hop
  iintro Hop
  iapply (x_load X W c (off2_down c t)) $$ [Hop]
  · iexact Hop
  iintro Hop
  iapply (w_load X W c 1 rfl) $$ [Hop]
  · iexact Hop
  iintro Hop
  iapply (x_load X W c (off2_up c t)) $$ [Hop]
  · iexact Hop
  iintro Hop
  iapply (w_load X W c 3 rfl) $$ [Hop]
  · iexact Hop
  iintro Hop
  iapply (rs_step X W κ c (i := 0) (k := t.val) (e := 4 * t.val + 0) (b := 4 * t.val + 4) (S' := SC (4 * t.val + 5)) (by omega) (Q_false 0 t.val).symm
      (Q_false 0 (t.val + 1)).symm (SC_insert (by omega) (by omega)) SC_after (dev15_eq c) (dev16_eq c) (fun u => up_down _)) $$ [HG HR0]
  · isplitr; · iexact HI
    isplitl [HG]; · iexact HG
    iexact HR0
  iintro ⟨HG, HR0⟩
  iapply (rs_step X W κ c (i := 2) (k := t.val) (e := 4 * t.val + 1) (b := 4 * t.val + 5) (S' := SC (4 * t.val + 6)) (by omega) (Q_false 2 t.val).symm
      (Q_false 2 (t.val + 1)).symm (SC_insert (by omega) (by omega)) SC_after (dev17_eq c) (dev18_eq c) (fun u => up_down _)) $$ [HG HR2]
  · isplitr; · iexact HI
    isplitl [HG]; · iexact HG
    iexact HR2
  iintro ⟨HG, HR2⟩
  iapply (rs_step X W κ c (i := 1) (k := t.val) (e := 4 * t.val + 2) (b := 4 * t.val + 6) (S' := SC (4 * t.val + 7)) (by omega) (Q_false 1 t.val).symm
      (Q_false 1 (t.val + 1)).symm (SC_insert (by omega) (by omega)) SC_after (dev19_eq c) (dev20_eq c) (fun u => up_down _)) $$ [HG HR1]
  · isplitr; · iexact HI
    isplitl [HG]; · iexact HG
    iexact HR1
  iintro ⟨HG, HR1⟩
  iapply (rs_step X W κ c (i := 3) (k := t.val) (e := 4 * t.val + 3) (b := 4 * t.val + 7) (S' := SC (4 * t.val + 8)) (by omega) (Q_false 3 t.val).symm
      (Q_false 3 (t.val + 1)).symm (SC_insert (by omega) (by omega)) SC_after (dev21_eq c) (dev22_eq c) (fun u => up_down _)) $$ [HG HR3]
  · isplitr; · iexact HI
    isplitl [HG]; · iexact HG
    iexact HR3
  iintro ⟨HG, HR3⟩
  iapply (WP_ret c)
  isplitr; · iexact HI
  isplitl [Hop]; · iexact Hop
  isplitl [HG]; · iexact HG
  isplitl [HR0]; · iexact HR0
  isplitl [HR2]; · iexact HR2
  isplitl [HR1]; · iexact HR1
  iexact HR3

end Cert.RingKernelIdeal
-- ==== Proof.KernelIdeal.Trip2.lean ====
/-
# The all-gather's loop

What a device holds between two trips of the second loop, and one trip.
-/
module

public import proofs.«01_k».proof.Proof.KernelIdeal.Trip1
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-- Between trips: round `t` of every ring in flight, and the copy of the block sent in it. -/
def I2 (κ : Dev nD × K → ℕ) (c : Dev nD) (t : ℕ) : sProp 𝕄 :=
  iprop(Inv X W κ ∗ G c (SC (4 * t + 128)) (4 * t + 128) (4 * t + 128) (4 * t + 124)
    ∗ (Ring true 0 c t ∗ CpF X W 0 c t) ∗ (Ring true 2 c t ∗ CpF X W 2 c t) ∗ (Ring true 1 c t ∗ CpF X W 1 c t) ∗ (Ring true 3 c t ∗ CpF X W 3 c t))

variable (κ : Dev nD × K → ℕ) (c : Dev nD)

set_option maxHeartbeats 0 in
theorem trip2 (v58 v96 v135 : BitVec 32) (t : Fin k0_t2_loop.trips) (u : Unit) :
    I2 X W κ c t.val ⊢ WP c (k0_t2_body (F := F) xM (hstage0_0 0) wM (hstage0_1 0) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v58 v96 v135 t u) fun _ => I2 X W κ c (t.val + 1) := by
  have ht : t.val < 30 := lt_of_lt_of_eq t.isLt (by decide)
  unfold k0_t2_body
  rw [k0_part16_eq_skeleton]
  unfold k0_part16_skel
  simp only [k0_part8_eq_skeleton, k0_part9_eq_skeleton, k0_part10_eq_skeleton, k0_part11_eq_skeleton, k0_part12_eq_skeleton, k0_part13_eq_skeleton, k0_part14_eq_skeleton, k0_part15_eq_skeleton]
  unfold k0_part8_skel k0_part9_skel k0_part10_skel k0_part11_skel k0_part12_skel k0_part13_skel k0_part14_skel k0_part15_skel
  simp only [semSignalWord, semWaitWord, Prog.lift, Prog.bind_op, Prog.bind_ret, Prog.pure_eq_ret]
  unfold I2
  iintro ⟨#HI, HG, ⟨HR0, HC0⟩, ⟨HR2, HC2⟩, ⟨HR1, HC1⟩, ⟨HR3, HC3⟩⟩
  iapply (ag_step X W κ c (i := 0) (k := t.val) (e := 4 * t.val + 124) (b := 4 * t.val + 128) (S' := SC (4 * t.val + 129)) (by omega) (Q_true 0 t.val).symm
      (Q_true 0 (t.val + 1)).symm (SC_insert (by omega) (by omega)) SC_after (dev27_eq c) (dev28_eq c) (fun u => up_down _) (fun u => up_down _) (off9_eq c t)) $$ [HG HR0 HC0]
  · isplitr; · iexact HI
    isplitl [HG]; · iexact HG
    isplitl [HR0]; · iexact HR0
    iexact HC0
  iintro ⟨HG, HR0, HC0⟩
  iapply (ag_step X W κ c (i := 2) (k := t.val) (e := 4 * t.val + 125) (b := 4 * t.val + 129) (S' := SC (4 * t.val + 130)) (by omega) (Q_true 2 t.val).symm
      (Q_true 2 (t.val + 1)).symm (SC_insert (by omega) (by omega)) SC_after (dev29_eq c) (dev30_eq c) (fun u => up_down _) (fun u => up_down _) (off11_eq c t)) $$ [HG HR2 HC2]
  · isplitr; · iexact HI
    isplitl [HG]; · iexact HG
    isplitl [HR2]; · iexact HR2
    iexact HC2
  iintro ⟨HG, HR2, HC2⟩
  iapply (ag_step X W κ c (i := 1) (k := t.val) (e := 4 * t.val + 126) (b := 4 * t.val + 130) (S' := SC (4 * t.val + 131)) (by omega) (Q_true 1 t.val).symm
      (Q_true 1 (t.val + 1)).symm (SC_insert (by omega) (by omega)) SC_after (dev31_eq c) (dev32_eq c) (fun u => up_down _) (fun u => up_down _) (off13_eq c t)) $$ [HG HR1 HC1]
  · isplitr; · iexact HI
    isplitl [HG]; · iexact HG
    isplitl [HR1]; · iexact HR1
    iexact HC1
  iintro ⟨HG, HR1, HC1⟩
  iapply (ag_step X W κ c (i := 3) (k := t.val) (e := 4 * t.val + 127) (b := 4 * t.val + 131) (S' := SC (4 * t.val + 132)) (by omega) (Q_true 3 t.val).symm
      (Q_true 3 (t.val + 1)).symm (SC_insert (by omega) (by omega)) SC_after (dev33_eq c) (dev34_eq c) (fun u => up_down _) (fun u => up_down _) (off15_eq c t)) $$ [HG HR3 HC3]
  · isplitr; · iexact HI
    isplitl [HG]; · iexact HG
    isplitl [HR3]; · iexact HR3
    iexact HC3
  iintro ⟨HG, HR3, HC3⟩
  iapply (WP_ret c)
  isplitr; · iexact HI
  isplitl [HG]; · iexact HG
  isplitl [HR0 HC0]
  · isplitl [HR0]; · iexact HR0
    iexact HC0
  isplitl [HR2 HC2]
  · isplitl [HR2]; · iexact HR2
    iexact HC2
  isplitl [HR1 HC1]
  · isplitl [HR1]; · iexact HR1
    iexact HC1
  isplitl [HR3]; · iexact HR3
  iexact HC3

end Cert.RingKernelIdeal
-- ==== Proof.KernelIdeal.Body.lean ====
/-
# The kernel's body

What a device holds when its kernel body starts and when it ends, and the body between the two.
-/
module

public import proofs.«01_k».proof.Proof.KernelIdeal.Trip2
public import proofs.«01_k».proof.Proof.Gen.KernelIdeal.Points
public import Idealize.ShloMosaic.Lib.Pipeline.Value

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-- What a ring's first permission in one phase is made of. -/
def Open (ph : Bool) (i : Fin 4) (c : Dev nD) : sProp 𝕄 :=
  iprop(slabAny (rcvM ph) i c ∗ reached ER (cell c (.rv ph i)) 0 ∗ reached ER (cell (ups i c) (.cr ph i)) 0)

/-- One ring's share of what a device starts with; of what it ends with. -/
def RStart (i : Fin 4) (c : Dev nD) : sProp 𝕄 :=
  iprop(Open false i c ∗ Open true i c ∗ Ring0 false i c ∗ Ring0 true i c ∗ Cp X W i c 0)
def REnd (i : Fin 4) (c : Dev nD) : sProp 𝕄 :=
  iprop(RingE false i c ∗ RingE true i c ∗ Cp X W i c 32)

/-- What a device still owes at the start. -/
def owed0 (c : Dev nD) : CellTallies nD τ sig ℕ :=
  Owed c (Finset.range 248) 0 + tallyAt (cell (nxt c) .bar) 1 1 + tallyAt (cell (prv c) .bar) 1 1

/-- The tickets and credits of every permission and transfer of a device. -/
def Tickets (c : Dev nD) : sProp 𝕄 :=
  iprop(bigSep (Finset.range 248) (TC c) ∗ bigSep (Finset.Ico 0 248) (TR c)
    ∗ bigSep (Finset.Ico 0 248) (CC c) ∗ bigSep (Finset.Ico 0 248) (CR c))
/-- The same of the barrier, at which every device signals its two neighbours. -/
def BarTickets (c : Dev nD) : sProp 𝕄 :=
  iprop(dutyTok ER (cell (prv c) .bar) 0 false ∗ dutyTok ER (cell (nxt c) .bar) 0 true
    ∗ reached ER (cell (prv c) .bar) 0 ∗ reached ER (cell (nxt c) .bar) 0
    ∗ atPos ER (cell c .bar) 0 ∅ 0 ∗ cred (tallyAt (cell c .bar) 1 2))

def BodyPre (κ : Dev nD × K → ℕ) (c : Dev nD) : sProp 𝕄 :=
  iprop(Inv X W κ ∗ opPts X W c ∗ (∃ Wt : Waits sig ℕ, owes (c : Thread nD τ) (owed0 c) Wt) ∗ Tickets c ∗ BarTickets c
    ∗ RStart X W 0 c ∗ RStart X W 2 c ∗ RStart X W 1 c ∗ RStart X W 3 c)
def BodyPost (c : Dev nD) : sProp 𝕄 :=
  iprop(opPts X W c ∗ (∃ Wt : Waits sig ℕ, owes (c : Thread nD τ) 0 Wt) ∗ atPos ER (cell c .bar) 1 ∅ 0
    ∗ REnd X W 0 c ∗ REnd X W 2 c ∗ REnd X W 1 c ∗ REnd X W 3 c)

theorem SC_start : (((((((((Finset.range 248).erase 0).erase 124).erase 1).erase 125).erase 2).erase 126).erase 3).erase 127) = SC 4 := by
  ext q; simp [mem_SC]; omega

variable (κ : Dev nD × K → ℕ) (c : Dev nD)

set_option maxHeartbeats 0 in
theorem body (t : Fin cfg0.N) : BodyPre X W κ c ⊢ WP c (bodyAt0 (F := F) t) fun _ => BodyPost X W c := by
  unfold bodyAt0
  rw [cc0_body_eq_skeleton]
  unfold cc0_body_skel
  rw [k0_part40_eq_skeleton]
  unfold k0_part40_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel
  simp only [semSignalWord, semWaitWord, Prog.lift, Prog.bind_op, Prog.bind_ret, Prog.pure_eq_ret, Prog.bind_assoc, wp_deviceId]
  unfold BodyPre Tickets BarTickets RStart Open owed0
  iintro ⟨#HI, Hop, ⟨%Wt, HO⟩, ⟨HTC, HTR, HCC, HCR⟩, ⟨Hb1, Hb2, #Hr1, #Hr2, Hba, Hbc⟩,
    ⟨⟨Hf0, #Hfr0, #Hfc0⟩, ⟨Ha0, #Har0, #Hac0⟩, HF0, HA0, HC0⟩,
    ⟨⟨Hf2, #Hfr2, #Hfc2⟩, ⟨Ha2, #Har2, #Hac2⟩, HF2, HA2, HC2⟩,
    ⟨⟨Hf1, #Hfr1, #Hfc1⟩, ⟨Ha1, #Har1, #Hac1⟩, HF1, HA1, HC1⟩,
    ⟨⟨Hf3, #Hfr3, #Hfc3⟩, ⟨Ha3, #Har3, #Hac3⟩, HF3, HA3, HC3⟩⟩
  iapply (signal_bar X W κ c (dev1_eq c) false rfl rfl) $$ [HO Hb1]
  · isplitr; · iexact HI
    isplitl [HO]; · iexact HO
    isplitl [Hb1]; · iexact Hb1
    iexact Hr1
  iintro HO
  iapply (signal_bar X W κ c (dev2_eq c) true rfl rfl) $$ [HO Hb2]
  · isplitr; · iexact HI
    isplitl [HO]; · iexact HO
    isplitl [Hb2]; · iexact Hb2
    iexact Hr2
  iintro HO
  iapply (wait_bar X W κ c (S := Finset.range 248) (b := 0) (d := 0) (e := 0) (fun q h => Finset.mem_range.1 h) rfl rfl) $$ [HO HTC HTR HCC HCR Hba Hbc]
  · isplitr; · iexact HI
    isplitl [HO HTC HTR HCC HCR]
    · unfold G
      iexists Wt
      isplitl [HO]; · iexact HO
      isplitl [HTC]; · iexact HTC
      isplitl [HTR]; · iexact HTR
      isplitl [HCC]; · iexact HCC
      iexact HCR
    isplitl [Hba]; · iexact Hba
    iexact Hbc
  iintro ⟨HG, Hba⟩
  iapply (signal_cr X W κ c (ph := false) (i := 0) (k := 0) (S := (Finset.range 248)) (S' := (Finset.range 248).erase 0) (by omega) (Finset.insert_erase (by simp [Q, ringAt])).symm (Finset.notMem_erase _ _)
      (dev3_eq c) rfl rfl) $$ [HG Hf0]
  · isplitr; · iexact HI
    isplitl [HG]; · iexact HG
    isplitl [Hf0]; · iexact Hf0
    isplitr; · iexact Hfr0
    iexact Hfc0
  iintro HG
  iapply (signal_cr X W κ c (ph := true) (i := 0) (k := 0) (S := ((Finset.range 248).erase 0)) (S' := ((Finset.range 248).erase 0).erase 124) (by omega) (Finset.insert_erase (by simp [Q, ringAt])).symm (Finset.notMem_erase _ _)
      (dev4_eq c) rfl rfl) $$ [HG Ha0]
  · isplitr; · iexact HI
    isplitl [HG]; · iexact HG
    isplitl [Ha0]; · iexact Ha0
    isplitr; · iexact Har0
    iexact Hac0
  iintro HG
  iapply (signal_cr X W κ c (ph := false) (i := 2) (k := 0) (S := (((Finset.range 248).erase 0).erase 124)) (S' := (((Finset.range 248).erase 0).erase 124).erase 1) (by omega) (Finset.insert_erase (by simp [Q, ringAt])).symm (Finset.notMem_erase _ _)
      (dev5_eq c) rfl rfl) $$ [HG Hf2]
  · isplitr; · iexact HI
    isplitl [HG]; · iexact HG
    isplitl [Hf2]; · iexact Hf2
    isplitr; · iexact Hfr2
    iexact Hfc2
  iintro HG
  iapply (signal_cr X W κ c (ph := true) (i := 2) (k := 0) (S := ((((Finset.range 248).erase 0).erase 124).erase 1)) (S' := ((((Finset.range 248).erase 0).erase 124).erase 1).erase 125) (by omega) (Finset.insert_erase (by simp [Q, ringAt])).symm (Finset.notMem_erase _ _)
      (dev6_eq c) rfl rfl) $$ [HG Ha2]
  · isplitr; · iexact HI
    isplitl [HG]; · iexact HG
    isplitl [Ha2]; · iexact Ha2
    isplitr; · iexact Har2
    iexact Hac2
  iintro HG
  iapply (signal_cr X W κ c (ph := false) (i := 1) (k := 0) (S := (((((Finset.range 248).erase 0).erase 124).erase 1).erase 125)) (S' := (((((Finset.range 248).erase 0).erase 124).erase 1).erase 125).erase 2) (by omega) (Finset.insert_erase (by simp [Q, ringAt])).symm (Finset.notMem_erase _ _)
      (dev7_eq c) rfl rfl) $$ [HG Hf1]
  · isplitr; · iexact HI
    isplitl [HG]; · iexact HG
    isplitl [Hf1]; · iexact Hf1
    isplitr; · iexact Hfr1
    iexact Hfc1
  iintro HG
  iapply (signal_cr X W κ c (ph := true) (i := 1) (k := 0) (S := ((((((Finset.range 248).erase 0).erase 124).erase 1).erase 125).erase 2)) (S' := ((((((Finset.range 248).erase 0).erase 124).erase 1).erase 125).erase 2).erase 126) (by omega) (Finset.insert_erase (by simp [Q, ringAt])).symm (Finset.notMem_erase _ _)
      (dev8_eq c) rfl rfl) $$ [HG Ha1]
  · isplitr; · iexact HI
    isplitl [HG]; · iexact HG
    isplitl [Ha1]; · iexact Ha1
    isplitr; · iexact Har1
    iexact Hac1
  iintro HG
  iapply (signal_cr X W κ c (ph := false) (i := 3) (k := 0) (S := (((((((Finset.range 248).erase 0).erase 124).erase 1).erase 125).erase 2).erase 126)) (S' := (((((((Finset.range 248).erase 0).erase 124).erase 1).erase 125).erase 2).erase 126).erase 3) (by omega) (Finset.insert_erase (by simp [Q, ringAt])).symm (Finset.notMem_erase _ _)
      (dev9_eq c) rfl rfl) $$ [HG Hf3]
  · isplitr; · iexact HI
    isplitl [HG]; · iexact HG
    isplitl [Hf3]; · iexact Hf3
    isplitr; · iexact Hfr3
    iexact Hfc3
  iintro HG
  iapply (signal_cr X W κ c (ph := true) (i := 3) (k := 0) (S := ((((((((Finset.range 248).erase 0).erase 124).erase 1).erase 125).erase 2).erase 126).erase 3)) (S' := ((((((((Finset.range 248).erase 0).erase 124).erase 1).erase 125).erase 2).erase 126).erase 3).erase 127) (by omega) (Finset.insert_erase (by simp [Q, ringAt])).symm (Finset.notMem_erase _ _)
      (dev10_eq c) rfl rfl) $$ [HG Ha3]
  · isplitr; · iexact HI
    isplitl [HG]; · iexact HG
    isplitl [Ha3]; · iexact Ha3
    isplitr; · iexact Har3
    iexact Hac3
  iintro HG
  rw [SC_start]
  iapply (x_load X W c (s := seg 0 c 0) (off1_eq c)) $$ [Hop]
  · iexact Hop
  iintro Hop
  iapply (w_load X W c 0 rfl) $$ [Hop]
  · iexact Hop
  iintro Hop
  iapply (start_step X W κ c (ph := false) (i := 0) (b := 0) (e := 0) (S := SC 4) rfl (fun q h => by rw [mem_SC] at h; omega) (dev11_eq c) (up_down _)) $$ [HG HF0]
  · isplitr; · iexact HI
    isplitl [HG]; · iexact HG
    iexact HF0
  iintro ⟨HG, HF0⟩
  iapply (x_load X W c (s := seg 2 c 0) (off1_eq c)) $$ [Hop]
  · iexact Hop
  iintro Hop
  iapply (w_load X W c 2 rfl) $$ [Hop]
  · iexact Hop
  iintro Hop
  iapply (start_step X W κ c (ph := false) (i := 2) (b := 1) (e := 0) (S := SC 4) rfl (fun q h => by rw [mem_SC] at h; omega) (dev12_eq c) (up_down _)) $$ [HG HF2]
  · isplitr; · iexact HI
    isplitl [HG]; · iexact HG
    iexact HF2
  iintro ⟨HG, HF2⟩
  iapply (x_load X W c (s := seg 1 c 0) (off1_eq c)) $$ [Hop]
  · iexact Hop
  iintro Hop
  iapply (w_load X W c 1 rfl) $$ [Hop]
  · iexact Hop
  iintro Hop
  iapply (start_step X W κ c (ph := false) (i := 1) (b := 2) (e := 0) (S := SC 4) rfl (fun q h => by rw [mem_SC] at h; omega) (dev13_eq c) (up_down _)) $$ [HG HF1]
  · isplitr; · iexact HI
    isplitl [HG]; · iexact HG
    iexact HF1
  iintro ⟨HG, HF1⟩
  iapply (x_load X W c (s := seg 3 c 0) (off1_eq c)) $$ [Hop]
  · iexact Hop
  iintro Hop
  iapply (w_load X W c 3 rfl) $$ [Hop]
  · iexact Hop
  iintro Hop
  iapply (start_step X W κ c (ph := false) (i := 3) (b := 3) (e := 0) (S := SC 4) rfl (fun q h => by rw [mem_SC] at h; omega) (dev14_eq c) (up_down _)) $$ [HG HF3]
  · isplitr; · iexact HI
    isplitl [HG]; · iexact HG
    iexact HF3
  iintro ⟨HG, HF3⟩
  iapply (Scf.wp_for_bind frame (wpE (defs₀ (F := F)) 𝒱₀ (c : Thread nD τ) none) Set.univ _ _ _ _ _ _ (fun k _ => I1 X W κ c k)
      (fun k u => trip1 X W κ c _ _ _ _ _ k u)) $$ [HG Hop HF0 HF2 HF1 HF3]
  · unfold I1
    isplitr; · iexact HI
    isplitl [Hop]; · iexact Hop
    isplitl [HG]; · iexact HG
    isplitl [HF0]; · iexact HF0
    isplitl [HF2]; · iexact HF2
    isplitl [HF1]; · iexact HF1
    iexact HF3
  iintro %acc HJ
  unfold I1
  icases HJ with ⟨-, Hop, HG, HF0, HF2, HF1, HF3⟩
  have hT1 : Scf.trips k0_t1_loop.lb k0_t1_loop.ub k0_t1_loop.st = 30 := by decide
  have hT2 : Scf.trips k0_t2_loop.lb k0_t2_loop.ub k0_t2_loop.st = 30 := by decide
  rw [hT1]
  iapply (rs_final X W κ c (i := 0) (b := 124) (e := 120) (S := SC 124) rfl rfl (fun q h => by rw [mem_SC] at h; omega) (dev23_eq c) (off3_down c) rfl
      (fun x w u => up_down _) (fun x w u => up_down _) (off4_eq c)) $$ [Hop HG HF0 HA0 HC0]
  · isplitr; · iexact HI
    isplitl [Hop]; · iexact Hop
    isplitl [HG]; · iexact HG
    isplitl [HF0]; · iexact HF0
    isplitl [HA0]; · iexact HA0
    iexact HC0
  iintro ⟨Hop, HG, HF0, HA0, HC0⟩
  iapply (rs_final X W κ c (i := 2) (b := 125) (e := 121) (S := SC 124) rfl rfl (fun q h => by rw [mem_SC] at h; omega) (dev24_eq c) (off3_up c) rfl
      (fun x w u => up_down _) (fun x w u => up_down _) (off5_eq c)) $$ [Hop HG HF2 HA2 HC2]
  · isplitr; · iexact HI
    isplitl [Hop]; · iexact Hop
    isplitl [HG]; · iexact HG
    isplitl [HF2]; · iexact HF2
    isplitl [HA2]; · iexact HA2
    iexact HC2
  iintro ⟨Hop, HG, HF2, HA2, HC2⟩
  iapply (rs_final X W κ c (i := 1) (b := 126) (e := 122) (S := SC 124) rfl rfl (fun q h => by rw [mem_SC] at h; omega) (dev25_eq c) (off3_down c) rfl
      (fun x w u => up_down _) (fun x w u => up_down _) (off6_eq c)) $$ [Hop HG HF1 HA1 HC1]
  · isplitr; · iexact HI
    isplitl [Hop]; · iexact Hop
    isplitl [HG]; · iexact HG
    isplitl [HF1]; · iexact HF1
    isplitl [HA1]; · iexact HA1
    iexact HC1
  iintro ⟨Hop, HG, HF1, HA1, HC1⟩
  iapply (rs_final X W κ c (i := 3) (b := 127) (e := 123) (S := SC 124) rfl rfl (fun q h => by rw [mem_SC] at h; omega) (dev26_eq c) (off3_up c) rfl
      (fun x w u => up_down _) (fun x w u => up_down _) (off7_eq c)) $$ [Hop HG HF3 HA3 HC3]
  · isplitr; · iexact HI
    isplitl [Hop]; · iexact Hop
    isplitl [HG]; · iexact HG
    isplitl [HF3]; · iexact HF3
    isplitl [HA3]; · iexact HA3
    iexact HC3
  iintro ⟨Hop, HG, HF3, HA3, HC3⟩
  rw [SC_124]
  iapply (Scf.wp_for_bind frame (wpE (defs₀ (F := F)) 𝒱₀ (c : Thread nD τ) none) Set.univ _ _ _ _ _ _ (fun k _ => I2 X W κ c k)
      (fun k u => trip2 X W κ c _ _ _ k u)) $$ [HG HA0 HA2 HA1 HA3 HC0 HC2 HC1 HC3]
  · unfold I2
    isplitr; · iexact HI
    isplitl [HG]; · iexact HG
    isplitl [HA0 HC0]
    · isplitl [HA0]; · iexact HA0
      iexact HC0
    isplitl [HA2 HC2]
    · isplitl [HA2]; · iexact HA2
      iexact HC2
    isplitl [HA1 HC1]
    · isplitl [HA1]; · iexact HA1
      iexact HC1
    isplitl [HA3]; · iexact HA3
    iexact HC3
  iintro %acc2 HJ
  unfold I2
  icases HJ with ⟨-, HG, ⟨HA0, HC0⟩, ⟨HA2, HC2⟩, ⟨HA1, HC1⟩, ⟨HA3, HC3⟩⟩
  rw [hT2]
  iapply (ag_final X W κ c (i := 0) (b := 248) (d := 248) (e := 244) (S := SC 248) rfl (Q_lt true 0 (by omega)) (fun q h => by rw [mem_SC] at h; omega)
      (fun u => up_down _) (off16_last c)) $$ [HG HA0 HC0]
  · isplitr; · iexact HI
    isplitl [HG]; · iexact HG
    isplitl [HA0]; · iexact HA0
    iexact HC0
  iintro ⟨HG, HA0, HC0⟩
  iapply (ag_final X W κ c (i := 2) (b := 248) (d := 248) (e := 245) (S := SC 248) rfl (Q_lt true 2 (by omega)) (fun q h => by rw [mem_SC] at h; omega)
      (fun u => up_down _) (off17_last c)) $$ [HG HA2 HC2]
  · isplitr; · iexact HI
    isplitl [HG]; · iexact HG
    isplitl [HA2]; · iexact HA2
    iexact HC2
  iintro ⟨HG, HA2, HC2⟩
  iapply (ag_final X W κ c (i := 1) (b := 248) (d := 248) (e := 246) (S := SC 248) rfl (Q_lt true 1 (by omega)) (fun q h => by rw [mem_SC] at h; omega)
      (fun u => up_down _) (off18_last c)) $$ [HG HA1 HC1]
  · isplitr; · iexact HI
    isplitl [HG]; · iexact HG
    isplitl [HA1]; · iexact HA1
    iexact HC1
  iintro ⟨HG, HA1, HC1⟩
  iapply (ag_final X W κ c (i := 3) (b := 248) (d := 248) (e := 247) (S := SC 248) rfl (Q_lt true 3 (by omega)) (fun q h => by rw [mem_SC] at h; omega)
      (fun u => up_down _) (off19_last c)) $$ [HG HA3 HC3]
  · isplitr; · iexact HI
    isplitl [HG]; · iexact HG
    isplitl [HA3]; · iexact HA3
    iexact HC3
  iintro ⟨HG, HA3, HC3⟩
  iapply (cp_last X W κ c (i := 0) (S := SC 248) (fun q h => by rw [mem_SC] at h; omega)) $$ [HG HC0]
  · isplitr; · iexact HI
    isplitl [HG]; · iexact HG
    iexact HC0
  iintro ⟨HG, HC0⟩
  iapply (cp_last X W κ c (i := 2) (S := SC 248) (fun q h => by rw [mem_SC] at h; omega)) $$ [HG HC2]
  · isplitr; · iexact HI
    isplitl [HG]; · iexact HG
    iexact HC2
  iintro ⟨HG, HC2⟩
  iapply (cp_last X W κ c (i := 1) (S := SC 248) (fun q h => by rw [mem_SC] at h; omega)) $$ [HG HC1]
  · isplitr; · iexact HI
    isplitl [HG]; · iexact HG
    iexact HC1
  iintro ⟨HG, HC1⟩
  iapply (cp_last X W κ c (i := 3) (S := SC 248) (fun q h => by rw [mem_SC] at h; omega)) $$ [HG HC3]
  · isplitr; · iexact HI
    isplitl [HG]; · iexact HG
    iexact HC3
  iintro ⟨HG, HC3⟩
  iapply (WP_ret c)
  unfold BodyPost REnd
  isplitl [Hop]; · iexact Hop
  isplitl [HG]
  · rw [SC_248]
    unfold G
    icases HG with ⟨%Wt', HO, -, -, -, -⟩
    iexists Wt'
    rw [Owed_end]
    iexact HO
  isplitl [Hba]; · iexact Hba
  isplitl [HF0 HA0 HC0]
  · isplitl [HF0]; · iexact HF0
    isplitl [HA0]; · iexact HA0
    iexact HC0
  isplitl [HF2 HA2 HC2]
  · isplitl [HF2]; · iexact HF2
    isplitl [HA2]; · iexact HA2
    iexact HC2
  isplitl [HF1 HA1 HC1]
  · isplitl [HF1]; · iexact HF1
    isplitl [HA1]; · iexact HA1
    iexact HC1
  isplitl [HF3]; · iexact HF3
  isplitl [HA3]; · iexact HA3
  iexact HC3

end Cert.RingKernelIdeal
-- ==== Proof.KernelIdeal.Ghost.lean ====
/-
# What the launch deals out

Every device starts with its own cells' positions, the tokens of everything it will pay, and the credits of
everything it will wait for.  The tokens are minted under the device that pays them, so none has to be moved.
-/
module

public import proofs.«01_k».proof.Proof.KernelIdeal.Body
public import proofs.«01_k».proof.Proof.Gen.KernelIdeal.Launch

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-! ## A device's cells, ring by ring -/

/-- The cells of the rings: all but the barrier's. -/
def kc : Fin 4 × Fin 7 → K
  | (i, 0) => .cr false i
  | (i, 1) => .rv false i
  | (i, 2) => .sd false i
  | (i, 3) => .cr true i
  | (i, 4) => .rv true i
  | (i, 5) => .sd true i
  | (i, 6) => .cp i

theorem kc_inj : Function.Injective kc := by decide

theorem K_univ : (Finset.univ : Finset K) = insert .bar (Finset.univ.map ⟨kc, kc_inj⟩) := by
  ext k
  simp only [Finset.mem_univ, Finset.mem_insert, Finset.mem_map, Function.Embedding.coeFn_mk, true_and, true_iff]
  rcases k with _ | ⟨_ | _, i⟩ | ⟨_ | _, i⟩ | ⟨_ | _, i⟩ | i
  · exact .inl rfl
  · exact .inr ⟨(i, 0), rfl⟩
  · exact .inr ⟨(i, 3), rfl⟩
  · exact .inr ⟨(i, 1), rfl⟩
  · exact .inr ⟨(i, 4), rfl⟩
  · exact .inr ⟨(i, 2), rfl⟩
  · exact .inr ⟨(i, 5), rfl⟩
  · exact .inr ⟨(i, 6), rfl⟩

theorem bar_not_kc : K.bar ∉ (Finset.univ : Finset (Fin 4 × Fin 7)).map ⟨kc, kc_inj⟩ := by
  simp only [Finset.mem_map, Function.Embedding.coeFn_mk, not_exists, not_and]
  rintro ⟨i, j⟩ -
  fin_cases j <;> exact fun h => K.noConfusion h

theorem bigSep_K (Φ : K → sProp 𝕄) :
    bigSep Finset.univ Φ = iprop(Φ .bar ∗ bigSep Finset.univ fun p : Fin 4 × Fin 7 => Φ (kc p)) := by
  rw [K_univ, bigSep_insert bar_not_kc, bigSep_map]; rfl

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- The rings in the kernel's order. -/
theorem bigSep_rings (Φ : Fin 4 → sProp 𝕄) : bigSep Finset.univ Φ = iprop(Φ 0 ∗ Φ 2 ∗ Φ 1 ∗ Φ 3) :=
  bigSep_univ_eq_bigSepL [0, 2, 1, 3] (by decide) (by decide) Φ

theorem bigSep_fin_range {n : ℕ} (Φ : ℕ → sProp 𝕄) : bigSep (Finset.univ : Finset (Fin n)) (fun q => Φ q.val) = bigSep (Finset.range n) Φ := by
  rw [show Finset.range n = (Finset.univ : Finset (Fin n)).map Fin.valEmbedding by
    rw [Fin.map_valEmbedding_univ]; exact (Nat.Iio_eq_range n).symm, bigSep_map]; rfl

/-- The semaphores of the rings' cells, and that they are the kernel's own. -/
abbrev osem : Fin 4 × Fin 7 → SemLoc sig := fun p => csem (kc p)
theorem ownSemFacts : Pipeline.OwnSemFacts cfg0.spec osem := by decide

/-! ## The tokens -/

/-- The tokens device `c` pays with: per credit, per transfer at the receiver and at itself, per copy, and at the
    barriers of its two neighbours. -/
abbrev J : Type := Fin 248 ⊕ Fin 248 ⊕ Fin 248 ⊕ (Fin 4 × Fin 32) ⊕ Unit ⊕ Unit

def tokOf (p : Dev nD × J) : GSem nD τ sig × ℕ × Bool := match p.2 with
  | .inl q => (cell (ups (qrg q.val) p.1) (.cr (qph q.val) (qrg q.val)), qk q.val, false)
  | .inr (.inl q) => (cell (tgt (qrg q.val) p.1) (.rv (qph q.val) (qrg q.val)), qk q.val, false)
  | .inr (.inr (.inl q)) => (cell p.1 (.sd (qph q.val) (qrg q.val)), qk q.val, false)
  | .inr (.inr (.inr (.inl r))) => (cell p.1 (.cp r.1), r.2.val, false)
  | .inr (.inr (.inr (.inr (.inl _)))) => (cell (prv p.1) .bar, 0, false)
  | .inr (.inr (.inr (.inr (.inr _)))) => (cell (nxt p.1) .bar, 0, true)

theorem q_eq {q q' : Fin 248} (h1 : qph q.val = qph q'.val) (h2 : qrg q.val = qrg q'.val) (h3 : qk q.val = qk q'.val) : q = q' := by
  apply Fin.ext
  have hq (q : Fin 248) : Q (qph q.val) (qrg q.val) (qk q.val) = q.val := by revert q; decide
  rw [← hq q, ← hq q', h1, h2, h3]

theorem tok_eq {c c' : Dev nD} {k k' : K} {r r' : ℕ} {b b' : Bool} (h : (cell c k, r, b) = (cell c' k', r', b')) :
    c = c' ∧ k = k' ∧ r = r' ∧ b = b' :=
  ⟨(cell_inj (congrArg (fun x : GSem nD τ sig × ℕ × Bool => x.1) h)).1, (cell_inj (congrArg (fun x : GSem nD τ sig × ℕ × Bool => x.1) h)).2,
    congrArg (fun x : GSem nD τ sig × ℕ × Bool => x.2.1) h, congrArg (fun x : GSem nD τ sig × ℕ × Bool => x.2.2) h⟩

theorem ups_inj {i : Fin 4} {c c' : Dev nD} (h : ups i c = ups i c') : c = c' := by rw [← tgt_ups i c, h, tgt_ups]
theorem tgt_inj {i : Fin 4} {c c' : Dev nD} (h : tgt i c = tgt i c') : c = c' := by rw [← ups_tgt i c, h, ups_tgt]

theorem tokOf_inj : Function.Injective tokOf := by
  rintro ⟨c, q | q | q | ⟨i, r⟩ | ⟨⟩ | ⟨⟩⟩ ⟨c', q' | q' | q' | ⟨i', r'⟩ | ⟨⟩ | ⟨⟩⟩ h <;>
    obtain ⟨h1, h2, h3, h4⟩ := tok_eq h <;> first | (exact K.noConfusion h2) | (exact Bool.noConfusion h4) | skip
  · injection h2 with ha hb
    obtain rfl := q_eq ha hb h3
    obtain rfl := ups_inj h1; rfl
  · injection h2 with ha hb
    obtain rfl := q_eq ha hb h3
    obtain rfl := tgt_inj h1; rfl
  · injection h2 with ha hb
    obtain rfl := q_eq ha hb h3
    obtain rfl : c = c' := h1; rfl
  · injection h2 with ha
    obtain rfl : c = c' := h1
    obtain rfl : i = i' := ha
    obtain rfl : r = r' := Fin.ext h3; rfl
  · obtain rfl := tgt_inj (i := 2) h1; rfl
  · obtain rfl := ups_inj (i := 2) h1; rfl

theorem pcell_inj : Function.Injective (fun p : Dev nD × K => cell p.1 p.2) := fun p p' h => Prod.ext (cell_inj h).1 (cell_inj h).2

def ringCells : Finset (GSem nD τ sig) := Finset.univ.map ⟨fun p : Dev nD × K => cell p.1 p.2, pcell_inj⟩
def ringToks : Finset (GSem nD τ sig × ℕ × Bool) := Finset.univ.map ⟨tokOf, tokOf_inj⟩

def u₀ : UU :=
  (Rounds.initOf (Pipeline.cells cfgs cellOf_inj) (Pipeline.launchToks cfgs cellOf_inj), Rounds.initOf ringCells ringToks)

/-- The same tokens as the body takes them. -/
def PayToks (c : Dev nD) : sProp 𝕄 :=
  iprop(bigSep (Finset.range 248) (TC c) ∗ bigSep (Finset.Ico 0 248) (TR c)
    ∗ (bigSep Finset.univ fun i : Fin 4 => bigSep (Finset.Ico 0 32) fun r => dutyTok ER (cell c (.cp i)) r false)
    ∗ dutyTok ER (cell (prv c) .bar) 0 false ∗ dutyTok ER (cell (nxt c) .bar) 0 true)

theorem bigSep_unit (Φ : Unit → sProp 𝕄) : bigSep Finset.univ Φ = Φ () := bigSep_singleton

theorem toks_eq : bigSep ringToks (fun x => (dutyTok ER x.1 x.2.1 x.2.2 : sProp 𝕄)) ⊢ bigSep Finset.univ fun c : Dev nD => PayToks (F := F) c := by
  unfold ringToks
  rw [bigSep_map, bigSep_univ_prod]
  refine bigSep_mono fun c _ => ?_
  rw [bigSep_univ_sum, bigSep_univ_sum, bigSep_univ_sum, bigSep_univ_sum, bigSep_univ_sum, bigSep_unit, bigSep_unit, bigSep_univ_prod]
  show iprop((bigSep Finset.univ fun q : Fin 248 => TC c q.val)
    ∗ (bigSep Finset.univ fun q : Fin 248 => dutyTok ER (cell (tgt (qrg q.val) c) (.rv (qph q.val) (qrg q.val))) (qk q.val) false)
    ∗ (bigSep Finset.univ fun q : Fin 248 => dutyTok ER (cell c (.sd (qph q.val) (qrg q.val))) (qk q.val) false)
    ∗ (bigSep Finset.univ fun i : Fin 4 => bigSep Finset.univ fun r : Fin 32 => dutyTok ER (cell c (.cp i)) r.val false)
    ∗ dutyTok ER (cell (prv c) .bar) 0 false ∗ dutyTok ER (cell (nxt c) .bar) 0 true) ⊢ _
  unfold PayToks
  rw [bigSep_fin_range (TC c), bigSep_congr (s := (Finset.univ : Finset (Fin 4))) (fun (i : Fin 4) _ => bigSep_fin_range (n := 32) fun r => dutyTok ER (cell c (.cp i)) r false),
    ← Finset.range_eq_Ico, ← Finset.range_eq_Ico, ← bigSep_fin_range (TR c)]
  unfold TR
  rw [bigSep_sep']
  iintro ⟨H1, H2, H3, H4, H5, H6⟩
  isplitl [H1]; · iexact H1
  isplitl [H2 H3]
  · isplitl [H2] <;> iassumption
  isplitl [H4]; · iexact H4
  isplitl [H5] <;> iassumption

/-! ## Cells opened, everything dealt -/

/-- What the launch element deals device `c`; what device `c` has once every cell has its invariant. -/
def LG (c : Dev nD) : sProp 𝕄 :=
  iprop((bigSep Finset.univ fun k : K => roundState ER (Rd X W) (cell c k) 0)
    ∗ (bigSep Finset.univ fun k : K => iprop(atPos ER (cell c k) 0 ∅ 0 ∗ reached ER (cell c k) 0)) ∗ PayToks c)

def Reached : sProp 𝕄 := bigSep Finset.univ fun p : Dev nD × K => reached ER (cell p.1 p.2) 0
instance Reached_persistent : BI.Persistent (Reached (F := F)) := by unfold Reached; infer_instance

theorem Reached_at (c : Dev nD) (k : K) : Reached (F := F) ⊢ reached ER (cell c k) 0 :=
  bigSep_elim (Φ := fun p : Dev nD × K => reached ER (cell p.1 p.2) 0) (Finset.mem_univ (c, k))

def Invs (κ : Dev nD × K → ℕ) : sProp 𝕄 := bigSep Finset.univ fun p : Dev nD × K => cellInv ER (Rd X W) (κ p) (cell p.1 p.2)
instance Invs_persistent (κ : Dev nD × K → ℕ) : BI.Persistent (Invs (F := F) X W κ) := by unfold Invs; infer_instance

def Own (c : Dev nD) : sProp 𝕄 := iprop((bigSep Finset.univ fun k : K => atPos ER (cell c k) 0 ∅ 0) ∗ PayToks c)
def LG' (c : Dev nD) : sProp 𝕄 := iprop(∃ κ : Dev nD × K → ℕ, (Invs X W κ ∗ Reached) ∗ Own c)

theorem fund_ring : BI.own (ER (Rounds.initOf ringCells ringToks)) ⊢ (|==> bigSep Finset.univ (LG X W) : sProp 𝕄) := by
  have hX (Φ : GSem nD τ sig → sProp 𝕄) : bigSep ringCells Φ = bigSep Finset.univ fun c : Dev nD => bigSep Finset.univ fun k : K => Φ (cell c k) := by
    unfold ringCells; rw [bigSep_map, bigSep_univ_prod]; rfl
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (toks_eq (F := F)) $$ Htok
  unfold LG; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- All semaphores of a device's cells, as the launch has them. -/
theorem sems0_eq (c : Dev nD) :
    (bigSep Finset.univ fun k : K => semVal (cell c k) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_K]; rfl

theorem core_alloc (c : Dev nD) :
    iprop(Pipeline.ownSems0 (Ix := ℕ) (Name := ℕ) (U := UU) (Lvl := ℕ) (Val := Elt F) (τ := τ) osem c ∗ unscopedSems0 c ∗ LG X W c)
      ⊢ |={Set.univ}=> iprop((bigSep Finset.univ fun k => iprop(∃ κ : ℕ, cellInv ER (Rd X W) κ (cell c k)))
          ∗ (bigSep Finset.univ fun k => iprop(atPos ER (cell c k) 0 ∅ 0 ∗ reached ER (cell c k) 0)) ∗ PayToks c) := by
  unfold LG
  iintro ⟨Hos, Hus, Hst, Hat, Htok⟩
  ihave Hv := (Entails.of_eq (sems0_eq (F := F) c).symm) $$ [Hos Hus]
  · isplitl [Hus] <;> iassumption
  imod (show iprop((bigSep Finset.univ fun k : K => semVal (cell c k) 0) ∗ bigSep Finset.univ fun k : K => roundState ER (Rd X W) (cell c k) 0)
      ⊢ (|={Set.univ}=> bigSep Finset.univ fun k => iprop(∃ κ : ℕ, cellInv ER (Rd X W) κ (cell c k)) : sProp 𝕄) from by
        rw [← bigSep_sep']
        exact (bigSep_mono fun k _ => (Rounds.body_intro ER (Rd X W) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X W) κ (cell c k)))
          ∗ (bigSep Finset.univ fun k => iprop(atPos ER (cell c k) 0 ∅ 0 ∗ reached ER (cell c k) 0)) ∗ PayToks c) : sProp 𝕄)
      ⊢ bigSep Finset.univ (LG' X W) := by
  rw [bigSep_sep', bigSep_sep', ← bigSep_univ_prod (fun p : Dev nD × K => iprop(∃ κ : ℕ, cellInv ER (Rd X W) κ (cell p.1 p.2))),
    bigSep_congr (s := Finset.univ) (fun (c : Dev nD) _ => bigSep_sep' Finset.univ (fun k : K => (atPos ER (cell c k) 0 ∅ 0 : sProp 𝕄)) (fun k => reached ER (cell c k) 0)),
    bigSep_sep', ← bigSep_univ_prod (fun p : Dev nD × K => (reached ER (cell p.1 p.2) 0 : sProp 𝕄))]
  iintro ⟨HI, ⟨Hat, #HR⟩, Htok⟩
  ihave HK := (BI.bigSep_exists_pi Finset.univ (fun (p : Dev nD × K) (κ : ℕ) => (cellInv ER (Rd X W) κ (cell p.1 p.2) : sProp 𝕄))) $$ HI
  icases HK with ⟨%κ, #HI⟩
  have hc (c : Dev nD) : iprop((Invs X W κ ∗ Reached) ∗ Own c) ⊢ LG' X W c := by
    unfold LG'; iintro H; iexists κ; iexact H
  iapply (with_persistent (R := iprop(Invs X W κ ∗ Reached)) fun c _ => hc c)
  isplitr
  · unfold Invs Reached; isplitl; · iexact HI
    iexact HR
  · iapply (Entails.of_eq (bigSep_sep' Finset.univ (fun c : Dev nD => bigSep Finset.univ fun k : K => (atPos ER (cell c k) 0 ∅ 0 : sProp 𝕄)) PayToks).symm)
    isplitl [Hat]; · iexact Hat
    iexact Htok

/-- From the semaphores at zero and the launch element: all invariants, and each device's own share. -/
theorem glob : (bigSep Finset.univ fun c => iprop(Pipeline.ownSems0 (Ix := ℕ) (Name := ℕ) (U := UU) (Lvl := ℕ) (Val := Elt F) (τ := τ) osem c ∗ unscopedSems0 c ∗ LG X W c) : sProp 𝕄)
    ⊢ |={Set.univ}=> bigSep Finset.univ (LG' X W) :=
  ((bigSep_mono fun c _ => core_alloc X W c).trans (bigSep_fupd _ _)).trans (BI.fupd_mono (regroup X W))

/-! ## The credits -/

theorem creds (c : Dev nD) :
    (Pipeline.launchCred owed0 c : sProp 𝕄)
      ⊢ iprop(bigSep (Finset.Ico 0 248) (CC c) ∗ bigSep (Finset.Ico 0 248) (CR c) ∗ cred (tallyAt (cell c .bar) 1 2)) := by
  have h0 : (owed0 : Dev nD → CellTallies nD τ sig ℕ) = fun d => (((∑ q ∈ Finset.range 248, crOwed d q) + ∑ q ∈ Finset.Ico 0 248, rvOwed d q)
      + tallyAt (cell (nxt d) .bar) 1 1) + tallyAt (cell (prv d) .bar) 1 1 := rfl
  rw [h0, Pipeline.launchCred_add, Pipeline.launchCred_add, Pipeline.launchCred_add, Pipeline.launchCred_sum, Pipeline.launchCred_sum, Finset.range_eq_Ico]
  have h1 : (bigSep (Finset.Ico 0 248) fun q => Pipeline.launchCred (fun d => crOwed d q) c : sProp 𝕄) ⊢ bigSep (Finset.Ico 0 248) (CC c) :=
    bigSep_mono fun q _ => Pipeline.launchCred_tallyAt (csem (.cr (qph q) (qrg q))) (ups (qrg q)) (tgt (qrg q)) (ups_tgt _) (tgt_ups _) _ _ c
  have h2 : (bigSep (Finset.Ico 0 248) fun q => Pipeline.launchCred (fun d => rvOwed d q) c : sProp 𝕄) ⊢ bigSep (Finset.Ico 0 248) (CR c) :=
    bigSep_mono fun q _ => Pipeline.launchCred_tallyAt (csem (.rv (qph q) (qrg q))) (tgt (qrg q)) (ups (qrg q)) (tgt_ups _) (ups_tgt _) _ _ c
  have h3 : (Pipeline.launchCred (fun d => tallyAt (cell (nxt d) .bar) 1 1) c : sProp 𝕄) ⊢ cred (tallyAt (cell c .bar) 1 1) :=
    Pipeline.launchCred_tallyAt (csem .bar) nxt prv (ups_tgt 2) (tgt_ups 2) _ _ c
  have h4 : (Pipeline.launchCred (fun d => tallyAt (cell (prv d) .bar) 1 1) c : sProp 𝕄) ⊢ cred (tallyAt (cell c .bar) 1 1) :=
    Pipeline.launchCred_tallyAt (csem .bar) prv nxt (tgt_ups 2) (ups_tgt 2) _ _ c
  have h5 : iprop(cred (tallyAt (cell c .bar) 1 1) ∗ cred (tallyAt (cell c .bar) 1 1)) ⊢ (cred (tallyAt (cell c .bar) 1 2) : sProp 𝕄) := by
    rw [show (tallyAt (cell c .bar) 1 2 : CellTallies nD τ sig ℕ) = tallyAt (cell c .bar) 1 1 + tallyAt (cell c .bar) 1 1 from (tallyAt_add _ _ 1 1).symm]
    exact (cred_add _ _).2
  iintro ⟨⟨⟨H1, H2⟩, H3⟩, H4⟩
  isplitl [H1]; · iapply h1; iexact H1
  isplitl [H2]; · iapply h2; iexact H2
  iapply h5
  isplitl [H3]; · iapply h3; iexact H3
  iapply h4; iexact H4

end Cert.RingKernelIdeal
-- ==== Proof.KernelIdeal.Memory.lean ====
/-
# Buffers cut and joined

A scratch buffer is its four slabs; the result is its 32 × 4 blocks, which ring by ring are the blocks a device
comes to in its 32 copies.
-/
module

public import proofs.«01_k».proof.Proof.KernelIdeal.Ghost
public import Idealize.ShloMosaic.Lib.Ring

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

section Slabs

variable {e : EltTy} (M : Memref sig .tc .vmem S4x256x1024 e) (hM : M.view.set = Finset.univ) (c : Dev nD)

/-- A slab's elements among the buffer's. -/
def slabS (i : Fin 4) : Finset M.view.ty.Idx := (slab M i).view.set

theorem slab_view_set (i : Fin 4) : slabS M i = (slabR i).set.map M.view.emb :=
  (View.set_reshape _ _).trans (View.set_slice _ _)

theorem slab_disjoint (i j : Fin 4) (h : i ≠ j) : Disjoint (slabS M i) (slabS M j) := by
  rw [slab_view_set, slab_view_set, Finset.disjoint_map, Finset.disjoint_left]
  intro y hy hy'
  have h1 := Rect.mem_set_unit.1 hy 0
  have h2 := Rect.mem_set_unit.1 hy' 0
  have e1 : S1x256x1024.size 0 = 1 := rfl
  apply h
  apply Fin.ext
  simp only [Matrix.cons_val_zero, e1] at h1 h2
  omega

include hM in
theorem slab_cover : Finset.univ.biUnion (slabS M) = Finset.univ := by
  ext y
  simp only [Finset.mem_biUnion, Finset.mem_univ, true_and, iff_true]
  have hy : y ∈ M.view.set := hM ▸ Finset.mem_univ y
  obtain ⟨x, -, rfl⟩ := Finset.mem_map.1 hy
  refine ⟨⟨(x 0).val, (x 0).isLt⟩, ?_⟩
  rw [slab_view_set]
  refine Finset.mem_map_of_mem _ (Rect.mem_set_unit.2 fun a => ?_)
  have ha := (x a).isLt
  match a with
  | 0 => exact ⟨le_refl _, Nat.lt_succ_self _⟩
  | 1 => exact ⟨Nat.zero_le _, by simpa using ha⟩
  | 2 => exact ⟨Nat.zero_le _, by simpa using ha⟩

theorem slabAny_eq (i : Fin 4) :
    slabAny M i c = (iprop(∃ f : Buf (Elt F) (M.view.loc (c : Thread nD τ)), M.view.loc (c : Thread nD τ) ↦[slabS M i]{fullShare} f) : sProp 𝕄) := rfl

include hM in
theorem slabs_open (f : Buf (Elt F) (M.view.loc (c : Thread nD τ))) :
    (M.view.loc (c : Thread nD τ) ↦{fullShare} f : sProp 𝕄) ⊢ bigSep Finset.univ fun i => slabAny M i c := by
  rw [Ring.pointsTo_blocks (ℓ := M.view.loc (c : Thread nD τ)) (slabS M) (slab_disjoint M) (slab_cover M hM) f]
  exact bigSep_mono fun i _ => by rw [slabAny_eq]; refine show _ ⊢ (_ : sProp 𝕄) from ?_; iintro H; iexists f; iexact H

include hM in
theorem slabs_close (f₀ : Buf (Elt F) (M.view.loc (c : Thread nD τ))) :
    (bigSep Finset.univ fun i => slabAny M i c) ⊢ (iprop(∃ f, M.view.loc (c : Thread nD τ) ↦{fullShare} f) : sProp 𝕄) :=
  Ring.pointsTo_blocks_join_exists (ℓ := M.view.loc (c : Thread nD τ)) (slabS M) (slab_disjoint M) (slab_cover M hM) f₀

end Slabs

/-! ## The result -/

section Result

variable (c : Dev nD)

/-- A block's elements among the result's. -/
def outS (s : Fin 32) (i : Fin 4) : Finset (Idx (outM.view.loc (c : Thread nD τ))) := (outB s i).view.set

theorem outAny_eq (s : Fin 32) (i : Fin 4) :
    outAny s i c = (iprop(∃ f : Buf (Elt F) (outM.view.loc (c : Thread nD τ)), outM.view.loc (c : Thread nD τ) ↦[outS c s i]{fullShare} f) : sProp 𝕄) := rfl
/-- The result's block (`s`, `i`). -/
def outRead (s : Fin 32) (i : Fin 4) (f : Buf (Elt F) (outM.view.loc (c : Thread nD τ))) : S256x1024.Idx → Elt F .f32 := (outB s i).view.read (Elt F) f
theorem outRead_congr (s : Fin 32) (i : Fin 4) {f g : Buf (Elt F) (outM.view.loc (c : Thread nD τ))} (h : ∀ y ∈ outS c s i, f y = g y) :
    outRead c s i f = outRead c s i g := View.read_congr h
theorem outPts_eq (s : Fin 32) (i : Fin 4) (v : S256x1024.Idx → Elt F .f32) :
    outPts s i c v = (iprop(∃ f : Buf (Elt F) (outM.view.loc (c : Thread nD τ)), ⌜outRead c s i f = v⌝
      ∗ (outM.view.loc (c : Thread nD τ) ↦[outS c s i]{fullShare} f)) : sProp 𝕄) := rfl

/-- The block device `c` writes in copy `p.2` of ring `p.1`. -/
def outSet (p : Fin 4 × Fin 32) : Finset (Idx (outM.view.loc (c : Thread nD τ))) := outS c (seg p.1 c (31 + p.2.val)) p.1

theorem mem_outB (s : Fin 32) (i : Fin 4) (y : S8192x4096.Idx) :
    y ∈ outS c s i ↔ (256 * s.val ≤ (y 0).val ∧ (y 0).val < 256 * s.val + 256) ∧ (1024 * i.val ≤ (y 1).val ∧ (y 1).val < 1024 * i.val + 1024) := by
  have h : outS c s i = (Rect.unit (s := S8192x4096) ![256 * s.val, 1024 * i.val] S256x1024.size (out_inb s i)).set := View.set_slice_whole main_v1 _
  rw [h, Rect.mem_set_unit]
  exact ⟨fun h => ⟨h 0, h 1⟩, fun h a => match a with | 0 => h.1 | 1 => h.2⟩

theorem outSet_disjoint (p p' : Fin 4 × Fin 32) (h : p ≠ p') : Disjoint (outSet c p) (outSet c p') := by
  rw [Finset.disjoint_left]
  intro y hy hy'
  have h1 := (mem_outB c _ _ y).1 hy
  have h2 := (mem_outB c _ _ y).1 hy'
  have hi : p.1 = p'.1 := Fin.ext (by omega)
  have hs : seg p.1 c (31 + p.2.val) = seg p'.1 c (31 + p'.2.val) := Fin.ext (by omega)
  rw [← hi, ← seg_up, ← seg_up] at hs
  exact h (Prod.ext hi (Fin.ext (seg_inj p.1 _ p.2.isLt p'.2.isLt hs)))

theorem outSet_cover : Finset.univ.biUnion (outSet c) = Finset.univ := by
  ext y
  simp only [Finset.mem_biUnion, Finset.mem_univ, true_and, iff_true]
  have h0 : (y 0).val < 8192 := (y 0).isLt
  have h1 : (y 1).val < 4096 := (y 1).isLt
  have hi : (y 1).val / 1024 < 4 := by omega
  have hs : (y 0).val / 256 < 32 := by omega
  obtain ⟨r, hr, h⟩ := seg_surj ⟨(y 1).val / 1024, hi⟩ (up ⟨(y 1).val / 1024, hi⟩ 31 c) ⟨(y 0).val / 256, hs⟩
  refine ⟨(⟨(y 1).val / 1024, hi⟩, ⟨r, hr⟩), (mem_outB c _ _ y).2 ?_⟩
  rw [seg_up] at h
  have h' := congrArg Fin.val h
  simp only [] at h' ⊢
  rw [h']
  omega

theorem out_open (f : Buf (Elt F) (outM.view.loc (c : Thread nD τ))) :
    (outM.view.loc (c : Thread nD τ) ↦{fullShare} f : sProp 𝕄)
      ⊢ bigSep Finset.univ fun i : Fin 4 => bigSep (Finset.Ico 0 32) fun r => outAny (seg i c (31 + r)) i c := by
  rw [Ring.pointsTo_blocks (ℓ := outM.view.loc (c : Thread nD τ)) (outSet c) (outSet_disjoint c) (outSet_cover c) f, bigSep_univ_prod]
  refine bigSep_mono fun i _ => ?_
  rw [← Finset.range_eq_Ico, ← bigSep_fin_range (n := 32) fun r => outAny (seg i c (31 + r)) i c]
  exact bigSep_mono fun r _ => by rw [outAny_eq]; refine show _ ⊢ (_ : sProp 𝕄) from ?_; iintro H; iexists f; iexact H

/-- The result read block by block. -/
def OutReads (v : Fin 4 → ℕ → S256x1024.Idx → Elt F .f32) (f : Buf (Elt F) (outM.view.loc (c : Thread nD τ))) : Prop :=
  ∀ (i : Fin 4) (r : ℕ), r < 32 → outRead c (seg i c (31 + r)) i f = v i r

theorem out_close (v : Fin 4 → ℕ → S256x1024.Idx → Elt F .f32) (f₀ : Buf (Elt F) (outM.view.loc (c : Thread nD τ))) :
    (bigSep Finset.univ fun i : Fin 4 => bigSep (Finset.range 32) fun r => outPts (seg i c (31 + r)) i c (v i r))
      ⊢ (iprop(∃ f, ⌜OutReads c v f⌝ ∗ outM.view.loc (c : Thread nD τ) ↦{fullShare} f) : sProp 𝕄) := by
  have : Nonempty (Buf (Elt F) (outM.view.loc (c : Thread nD τ))) := ⟨f₀⟩
  have h1 : (bigSep Finset.univ fun i : Fin 4 => bigSep (Finset.range 32) fun r => outPts (seg i c (31 + r)) i c (v i r))
      = (bigSep Finset.univ fun p : Fin 4 × Fin 32 => (iprop(∃ f : Buf (Elt F) (outM.view.loc (c : Thread nD τ)),
          ⌜outRead c (seg p.1 c (31 + p.2.val)) p.1 f = v p.1 p.2.val⌝ ∗ (outM.view.loc (c : Thread nD τ) ↦[outSet c p]{fullShare} f)) : sProp 𝕄)) := by
    rw [bigSep_univ_prod]
    refine bigSep_congr fun i _ => ?_
    rw [← bigSep_fin_range (n := 32) fun r => outPts (seg i c (31 + r)) i c (v i r)]
    exact bigSep_congr fun r _ => outPts_eq c _ i _
  rw [h1]
  refine (BI.bigSep_exists_pi Finset.univ _).trans ?_
  iintro ⟨%fs, H⟩
  ihave H' := (BI.bigSep_pure_sep Finset.univ (fun p : Fin 4 × Fin 32 => outRead c (seg p.1 c (31 + p.2.val)) p.1 (fs p) = v p.1 p.2.val)
    (fun p => (outM.view.loc (c : Thread nD τ) ↦[outSet c p]{fullShare} fs p : sProp 𝕄))) $$ H
  icases H' with ⟨%hr, H⟩
  have hj := pointsTo_biUnion_join (Ix := ℕ) (Name := ℕ) (U := UU) (Lvl := ℕ) (ℓ := outM.view.loc (c : Thread nD τ)) (q := fullShare)
    Finset.univ (outSet c) fs f₀ (fun p _ p' _ h => outSet_disjoint c p p' h)
  rw [outSet_cover] at hj
  ihave H' := hj $$ H
  icases H' with ⟨%g, %hg, H⟩
  iexists g
  isplitr
  · ipureintro
    intro i r h
    rw [← hr (i, ⟨r, h⟩) (Finset.mem_univ _)]
    exact outRead_congr c _ _ fun y hy => hg (i, ⟨r, h⟩) (Finset.mem_univ _) y hy
  · iexact H

end Result

end Cert.RingKernelIdeal
-- ==== Proof.KernelIdeal.Ends.lean ====
/-
# Into the body and out of it

From what the launch leaves a device with to what the body starts from, and from what the body ends with to the
buffers whole and every semaphore at zero.
-/
module

public import proofs.«01_k».proof.Proof.KernelIdeal.Memory

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

variable (κ : Dev nD × K → ℕ) (c : Dev nD)

/-- One ring's slabs. -/
def Slabs (i : Fin 4) (c : Dev nD) : sProp 𝕄 :=
  iprop(slabAny (sndM false) i c ∗ slabAny (rcvM false) i c ∗ slabAny (sndM true) i c ∗ slabAny (rcvM true) i c ∗ slabAny stgM i c)

theorem scr_open : (Pipeline.scopedRest cfg0.spec c : sProp 𝕄) ⊢ bigSep Finset.univ fun i => Slabs i c := by
  have h0 (f) := slabs_open (F := F) (sndM false) (View.set_whole _) c f
  have h1 (f) := slabs_open (F := F) (rcvM false) (View.set_whole _) c f
  have h2 (f) := slabs_open (F := F) (sndM true) (View.set_whole _) c f
  have h3 (f) := slabs_open (F := F) (rcvM true) (View.set_whole _) c f
  have h4 (f) := slabs_open (F := F) stgM (View.set_whole _) c f
  unfold Slabs
  simp only [bigSep_sep']
  rw [show (Pipeline.scopedRest cfg0.spec c : sProp 𝕄) = _ from scopedRest0_eq c]
  iintro ⟨⟨%f0, H0⟩, ⟨%f1, H1⟩, ⟨%f2, H2⟩, ⟨%f3, H3⟩, ⟨%f4, H4⟩⟩
  isplitl [H0]; · iapply (h0 f0); iexact H0
  isplitl [H1]; · iapply (h1 f1); iexact H1
  isplitl [H2]; · iapply (h2 f2); iexact H2
  isplitl [H3]; · iapply (h3 f3); iexact H3
  iapply (h4 f4); iexact H4

theorem scr_close : (bigSep Finset.univ fun i => Slabs i c) ⊢ (Pipeline.scopedRest cfg0.spec c : sProp 𝕄) := by
  have h0 := slabs_close (F := F) (sndM false) (View.set_whole _) c (fun _ => Classical.choice inferInstance)
  have h1 := slabs_close (F := F) (rcvM false) (View.set_whole _) c (fun _ => Classical.choice inferInstance)
  have h2 := slabs_close (F := F) (sndM true) (View.set_whole _) c (fun _ => Classical.choice inferInstance)
  have h3 := slabs_close (F := F) (rcvM true) (View.set_whole _) c (fun _ => Classical.choice inferInstance)
  have h4 := slabs_close (F := F) stgM (View.set_whole _) c (fun _ => Classical.choice inferInstance)
  unfold Slabs
  simp only [bigSep_sep']
  rw [show (Pipeline.scopedRest cfg0.spec c : sProp 𝕄) = _ from scopedRest0_eq c]
  iintro ⟨H0, H1, H2, H3, H4⟩
  isplitl [H0]; · iapply h0; iexact H0
  isplitl [H1]; · iapply h1; iexact H1
  isplitl [H2]; · iapply h2; iexact H2
  isplitl [H3]; · iapply h3; iexact H3
  iapply h4; iexact H4

/-! ## In -/

/-- One ring's share of what a device has before its body. -/
def RIn (i : Fin 4) (c : Dev nD) : sProp 𝕄 :=
  iprop((bigSep Finset.univ fun j : Fin 7 => atPos ER (cell c (kc (i, j))) 0 ∅ 0) ∗ Slabs i c
    ∗ (bigSep (Finset.Ico 0 32) fun r => dutyTok ER (cell c (.cp i)) r false)
    ∗ bigSep (Finset.Ico 0 32) fun r => outAny (seg i c (31 + r)) i c)

theorem ring_in (i : Fin 4) : iprop(Reached ∗ RIn i c) ⊢ RStart X W i c := by
  unfold RIn RStart Open Ring0 Cp Made Slabs
  rw [bigSep_fin7, Finset.range_zero, bigSep_empty]
  have hr (c' : Dev nD) (k : K) := Reached_at (F := F) c' k
  iintro ⟨#HR, ⟨Ha, Hb, Hc, Hd, He, Hf, Hg⟩, ⟨H0, H1, H2, H3, H4⟩, Ht, Ho⟩
  isplitl [H1]
  · isplitl [H1]; · iexact H1
    isplitr; · iapply (hr c (.rv false i)); iexact HR
    iapply (hr (ups i c) (.cr false i)); iexact HR
  isplitl [H3]
  · isplitl [H3]; · iexact H3
    isplitr; · iapply (hr c (.rv true i)); iexact HR
    iapply (hr (ups i c) (.cr true i)); iexact HR
  isplitl [Ha Hb Hc H0]
  · isplitl [Ha]; · iexact Ha
    isplitl [Hb]; · iexact Hb
    isplitl [Hc]; · iexact Hc
    isplitr; · iapply (hr c (.sd false i)); iexact HR
    iexact H0
  isplitl [Hd He Hf H2]
  · isplitl [Hd]; · iexact Hd
    isplitl [He]; · iexact He
    isplitl [Hf]; · iexact Hf
    isplitr; · iapply (hr c (.sd true i)); iexact HR
    iexact H2
  isplitl [Hg]; · iexact Hg
  isplitr; · iapply (hr c (.cp i)); iexact HR
  isplitl [H4]; · iexact H4
  isplitr; · iempintro
  isplitl [Ht]; · iexact Ht
  iexact Ho

/-- What a device holds when its kernel starts, besides the operands. -/
def Φ₀ (c : Dev nD) : sProp 𝕄 :=
  iprop((LG' X W c ∗ (bigSep (Finset.Ico 0 248) (CC c) ∗ bigSep (Finset.Ico 0 248) (CR c) ∗ cred (tallyAt (cell c .bar) 1 2)) ∗ Lev F
    ∗ ∃ f : Buf (Elt F) (outM.view.loc (c : Thread nD τ)), outM.view.loc (c : Thread nD τ) ↦{fullShare} f) ∗ Pipeline.scopedRest cfg0.spec c)

theorem start_body : iprop(Φ₀ X W c ∗ opPts X W c ∗ ∃ Wt : Waits sig ℕ, owes (c : Thread nD τ) (owed0 c) Wt) ⊢ iprop(∃ κ, BodyPre X W κ c) := by
  have hr := with_persistent (F := F) (S := Finset.univ) (R := Reached) (Φ := fun i => RIn i c) (Ψ := fun i => RStart X W i c) fun i _ => ring_in X W c i
  have hout (f) := out_open (F := F) c f
  have hscr := scr_open (F := F) c
  have hin : iprop((bigSep Finset.univ fun p : Fin 4 × Fin 7 => atPos ER (cell c (kc p)) 0 ∅ 0) ∗ (bigSep Finset.univ fun i => Slabs i c)
      ∗ (bigSep Finset.univ fun i : Fin 4 => bigSep (Finset.Ico 0 32) fun r => dutyTok ER (cell c (.cp i)) r false)
      ∗ bigSep Finset.univ fun i : Fin 4 => bigSep (Finset.Ico 0 32) fun r => outAny (seg i c (31 + r)) i c)
      ⊢ (bigSep Finset.univ fun i => RIn i c : sProp 𝕄) := by
    unfold RIn; rw [bigSep_univ_prod]; simp only [bigSep_sep']; exact BI.Entails.refl _
  rw [bigSep_rings (fun i => RStart X W i c)] at hr
  unfold Φ₀ LG' Own PayToks Invs
  rw [bigSep_K]
  iintro ⟨⟨⟨⟨%κ, ⟨#HI, #HR⟩, ⟨Hba, Hat⟩, H1, H2, H3, H4, H5⟩, ⟨H6, H7, H8⟩, #HL, ⟨%f, Hout⟩⟩, Hscr⟩, Hop, HO⟩
  iexists κ
  unfold BodyPre Inv Tickets BarTickets
  isplitr
  · isplitr; · iexact HL
    iexact HI
  isplitl [Hop]; · iexact Hop
  isplitl [HO]; · iexact HO
  isplitl [H1 H2 H6 H7]
  · isplitl [H1]; · iexact H1
    isplitl [H2]; · iexact H2
    isplitl [H6] <;> iassumption
  isplitl [H4 H5 Hba H8]
  · isplitl [H4]; · iexact H4
    isplitl [H5]; · iexact H5
    isplitr; · iapply (Reached_at (F := F) (prv c) .bar); iexact HR
    isplitr; · iapply (Reached_at (F := F) (nxt c) .bar); iexact HR
    isplitl [Hba] <;> iassumption
  iapply hr
  isplitr; · iexact HR
  iapply hin
  isplitl [Hat]; · iexact Hat
  isplitl [Hscr]; · iapply hscr; iexact Hscr
  isplitl [H3]; · iexact H3
  iapply (hout f); iexact Hout

/-! ## Out -/

theorem close1 {R : ℕ} (k : K) (h : roundsOf k ≤ R) : iprop(Inv X W κ ∗ atPos ER (cell c k) R ∅ 0) ⊢ (|={Set.univ}=> semVal (cell c k) 0 : sProp 𝕄) := by
  have hI := Inv_cell X W κ c k
  iintro ⟨HI, Ha⟩
  iapply (Rounds.cell_close ER (Rd X W) (Set.mem_univ (κ (c, k))) (fun h => h) (R := R) fun r hr => duties_later X W c (Nat.le_trans h hr))
  isplitl [HI]; · iapply hI; iexact HI
  iexact Ha

/-- One ring's share of what a device has after its body. -/
def ROut (i : Fin 4) (c : Dev nD) : sProp 𝕄 :=
  iprop((bigSep Finset.univ fun j : Fin 7 => semVal (cell c (kc (i, j))) 0) ∗ Slabs i c
    ∗ bigSep (Finset.range 32) fun r => outPts (seg i c (31 + r)) i c (outVal X W i r c))

theorem ring_out (i : Fin 4) : iprop(Inv X W κ ∗ REnd X W i c) ⊢ (|={Set.univ}=> ROut X W i c : sProp 𝕄) := by
  unfold ROut REnd RingE Cp Made Slabs
  rw [bigSep_fin7]
  iintro ⟨#HI, ⟨Ha, Hb, Hc, H0, H1⟩, ⟨Hd, He, Hf, H2, H3⟩, Hg, -, H4, Ho, -, -⟩
  imod (close1 X W κ c (.cr false i) (Nat.le_refl _)) $$ [Ha] with Za
  · isplitr; · iexact HI
    iexact Ha
  imod (close1 X W κ c (.rv false i) (Nat.le_refl _)) $$ [Hb] with Zb
  · isplitr; · iexact HI
    iexact Hb
  imod (close1 X W κ c (.sd false i) (Nat.le_refl _)) $$ [Hc] with Zc
  · isplitr; · iexact HI
    iexact Hc
  imod (close1 X W κ c (.cr true i) (Nat.le_refl _)) $$ [Hd] with Zd
  · isplitr; · iexact HI
    iexact Hd
  imod (close1 X W κ c (.rv true i) (Nat.le_refl _)) $$ [He] with Ze
  · isplitr; · iexact HI
    iexact He
  imod (close1 X W κ c (.sd true i) (Nat.le_refl _)) $$ [Hf] with Zf
  · isplitr; · iexact HI
    iexact Hf
  imod (close1 X W κ c (.cp i) (Nat.le_refl _)) $$ [Hg] with Zg
  · isplitr; · iexact HI
    iexact Hg
  imodintro
  isplitl [Za Zb Zc Zd Ze Zf Zg]
  · isplitl [Za]; · iexact Za
    isplitl [Zb]; · iexact Zb
    isplitl [Zc]; · iexact Zc
    isplitl [Zd]; · iexact Zd
    isplitl [Ze]; · iexact Ze
    isplitl [Zf]; · iexact Zf
    iexact Zg
  isplitl [H0 H1 H2 H3 H4]
  · isplitl [H0]; · iexact H0
    isplitl [H1]; · iexact H1
    isplitl [H2]; · iexact H2
    isplitl [H3]; · iexact H3
    iexact H4
  iexact Ho

/-- The result whole, every block at its value. -/
def Result (c : Dev nD) : sProp 𝕄 :=
  iprop(∃ f : Buf (Elt F) (outM.view.loc (c : Thread nD τ)), ⌜OutReads c (fun i r => outVal X W i r c) f⌝ ∗ outM.view.loc (c : Thread nD τ) ↦{fullShare} f)

/-- What a device holds when its kernel ends, besides the operands. -/
def Φ₁ (c : Dev nD) : sProp 𝕄 :=
  iprop((Result X W c ∗ unscopedSems0 c) ∗ Pipeline.ownSems0 osem c ∗ Pipeline.scopedRest cfg0.spec c)

theorem end_body : iprop(Inv X W κ ∗ BodyPost X W c)
    ⊢ iprop(|={Set.univ}=> (Φ₁ X W c ∗ opPts X W c ∗ ∃ Wt : Waits sig ℕ, owes (c : Thread nD τ) 0 Wt)) := by
  have hout := out_close (F := F) c (fun i r => outVal X W i r c) (fun _ => Classical.choice inferInstance)
  have hscr := scr_close (F := F) c
  have hro : iprop(ROut X W 0 c ∗ ROut X W 2 c ∗ ROut X W 1 c ∗ ROut X W 3 c)
      ⊢ iprop((bigSep Finset.univ fun p : Fin 4 × Fin 7 => semVal (cell c (kc p)) 0) ∗ (bigSep Finset.univ fun i => Slabs i c)
        ∗ bigSep Finset.univ fun i : Fin 4 => bigSep (Finset.range 32) fun r => outPts (seg i c (31 + r)) i c (outVal X W i r c)) := by
    rw [← bigSep_rings (fun i => ROut X W i c)]
    unfold ROut; rw [bigSep_univ_prod]; simp only [bigSep_sep']; exact BI.Entails.refl _
  have hsem := Entails.of_eq (sems0_eq (F := F) c)
  rw [bigSep_K] at hsem
  unfold BodyPost Φ₁ Result
  iintro ⟨#HI, Hop, HO, Hb, R0, R2, R1, R3⟩
  imod (close1 X W κ c .bar (Nat.le_refl _)) $$ [Hb] with Zb
  · isplitr; · iexact HI
    iexact Hb
  imod (ring_out X W κ c 0) $$ [R0] with R0
  · isplitr; · iexact HI
    iexact R0
  imod (ring_out X W κ c 2) $$ [R2] with R2
  · isplitr; · iexact HI
    iexact R2
  imod (ring_out X W κ c 1) $$ [R1] with R1
  · isplitr; · iexact HI
    iexact R1
  imod (ring_out X W κ c 3) $$ [R3] with R3
  · isplitr; · iexact HI
    iexact R3
  imodintro
  ihave H := hro $$ [R0 R2 R1 R3]
  · isplitl [R0]; · iexact R0
    isplitl [R2]; · iexact R2
    isplitl [R1] <;> iassumption
  icases H with ⟨Hs, Hsl, Ho⟩
  ihave Hz := hsem $$ [Zb Hs]
  · isplitl [Zb] <;> iassumption
  icases Hz with ⟨Hu, Hs⟩
  isplitl [Ho Hu Hs Hsl]
  · isplitl [Ho Hu]
    · isplitl [Ho]; · iapply hout; iexact Ho
      iexact Hu
    isplitl [Hs]; · iexact Hs
    iapply hscr; iexact Hsl
  isplitl [Hop] <;> iassumption

end Cert.RingKernelIdeal
-- ==== Proof.KernelIdeal.Run.lean ====
/-
# The run

The launch at the kernel's one grid point: from any memory with the counters at zero the program ends with the
arguments unchanged, the counters at zero, and every block of the result at the value the rings carry it to.
-/
module

public import proofs.«01_k».proof.Proof.KernelIdeal.Ends
public import Idealize.ShloMosaic.Lib.Pipeline.CollectiveSegs

@[expose] public section

set_option backward.proofsInPublic true
set_option maxRecDepth 20000

noncomputable section

namespace Cert.RingKernelIdeal

open Cert.KernelIdeal Cert.KernelIdeal.Gen Cert.RingPos
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- A device's blocks of the two arguments, as its windows fetch them. -/
def xs (c : Dev nD) : (cc0_stg0_0 : Ref sig .tc).ty.Contents (Elt F) :=
  (win0_0.blk (0 : Fin 1)).view.read (Elt F) (m ((c : Thread nD τ).loc main_arg0))
def ws (c : Dev nD) : (cc0_stg1_0 : Ref sig .tc).ty.Contents (Elt F) :=
  (win0_1.blk (0 : Fin 1)).view.read (Elt F) (m ((c : Thread nD τ).loc main_arg1))

def dats (_ : Fin 1) (c : Dev nD) : Dat τ (Elt F) ℕ ℕ UU ℕ cfg0 c where
  A w := m ((cfg0.win w).arr.view.loc (c : Thread nD τ))
  after w _ := match w with
    | ⟨0, _⟩ => xs m c
    | ⟨1, _⟩ => ws m c
  Φ t := match t with
    | ⟨0, _⟩ => Φ₀ (xs m) (ws m) c
    | ⟨_ + 1, _⟩ => Φ₁ (xs m) (ws m) c
  q _ := fullShare
  owed t := match t with
    | ⟨0, _⟩ => owed0 c
    | ⟨_ + 1, _⟩ => 0

/-! ## The body's obligation -/

omit [FloatOps F] in
theorem owns_whole (c : Dev nD) (b : Ref sig .tc) (v : b.ty.Contents (Elt F)) :
    (owns (Ix := ℕ) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- A staging buffer at known contents. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

def obPre (c : Dev nD) : sProp 𝕄 :=
  iprop(Φ₀ (xs m) (ws m) c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def obPost (c : Dev nD) : sProp 𝕄 :=
  iprop(Φ₁ (xs m) (ws m) c ∗ (dats m 0 c).owesAt 0 t0_0.succ
    ∗ stg c cc0_stg0_0 (xs m c) ∗ stg c cc0_stg1_0 (ws m c))

theorem before_x (c : Dev nD) (d) : (dats m 0 c).before (0 : Fin 2) t0_0 d = xs m c := by
  unfold Dat.before; rw [if_pos (fetch0_0 t0_0)]; rfl
theorem before_w (c : Dev nD) (d) : (dats m 0 c).before (1 : Fin 2) t0_0 d = ws m c := by
  unfold Dat.before; rw [if_pos (fetch0_1 t0_0)]; rfl

theorem ob (c : Dev nD) : obPre m c ⊢ WP c (bodyAt0 (F := F) t0_0) fun _ => obPost m c := by
  have hb (κ) := body (xs m) (ws m) κ c t0_0
  have hs := start_body (xs m) (ws m) c
  have he (κ) := end_body (xs m) (ws m) κ c
  have hpost : iprop(Φ₁ (xs m) (ws m) c ∗ opPts (xs m) (ws m) c ∗ ∃ Wt : Waits sig ℕ, owes (c : Thread nD τ) 0 Wt) ⊢ obPost m c := by
    unfold obPost opPts Dat.owesAt Pipeline.owesWithin
    iintro ⟨H, ⟨Hx, Hw⟩, ⟨%Wt, HO⟩⟩
    isplitl [H]; · iexact H
    isplitl [HO]
    · iexists Wt
      isplitr; · ipureintro; exact fun _ _ => Or.inl trivial
      iexact HO
    isplitl [Hx]
    · iexists _; isplitr; · (ipureintro; rfl)
      iexact Hx
    iexists _; isplitr; · (ipureintro; rfl)
    iexact Hw
  have hwp (κ) : iprop(BodyPre (xs m) (ws m) κ c) ⊢ WP c (bodyAt0 (F := F) t0_0) fun _ => obPost m c := by
    refine BI.Entails.trans ?_ (wp_fupd frame (wpE (defs₀ (F := F)) 𝒱₀ (c : Thread nD τ) none) Set.univ _ _)
    have hInv : BodyPre (xs m) (ws m) κ c ⊢ iprop(Inv (xs m) (ws m) κ ∗ BodyPre (xs m) (ws m) κ c) := by
      unfold BodyPre
      iintro ⟨#HI, H⟩
      isplitr; · iexact HI
      isplitr; · iexact HI
      iexact H
    have hw : iprop(WP c (bodyAt0 (F := F) t0_0) (fun _ => BodyPost (xs m) (ws m) c)) ⊢ iprop((∀ a, BodyPost (xs m) (ws m) c -∗ |={Set.univ}=> obPost m c) -∗ WP c (bodyAt0 (F := F) t0_0) fun _ => iprop(|={Set.univ}=> obPost m c)) :=
      wp_wand frame (wpE (defs₀ (F := F)) 𝒱₀ (c : Thread nD τ) none) Set.univ
    refine show _ ⊢ (_ : sProp 𝕄) from ?_
    iintro H
    ihave H' := hInv $$ H
    icases H' with ⟨#HI, H⟩
    ihave Hwp := (hb κ) $$ H
    ihave Hwp' := hw $$ Hwp
    iapply Hwp'
    iintro %a H
    imod (he κ) $$ [H] with H
    · isplitr; · iexact HI
      iexact H
    imodintro
    iapply hpost; iexact H
  unfold obPre
  iintro ⟨HΦ, HO, ⟨%d0, ⟨%f0, %hf0, Hx⟩⟩, ⟨%d1, ⟨%f1, %hf1, Hw⟩⟩⟩
  rw [before_x] at hf0
  rw [before_w] at hf1
  subst hf0 hf1
  ihave H := hs $$ [HΦ HO Hx Hw]
  · isplitl [HΦ]; · iexact HΦ
    isplitl [Hx Hw]
    · unfold opPts
      isplitl [Hx]; · iexact Hx
      iexact Hw
    unfold Dat.owesAt Pipeline.owesWithin
    icases HO with ⟨%Wt, -, HO⟩
    iexists Wt; iexact HO
  icases H with ⟨%κ, H⟩
  iapply (hwp κ); iexact H

theorem body_obligation (c : Dev nD) : BodyObligation (dats (F := F) m 0 c) (defs₀ (F := F)) 𝒱₀ 0 Set.univ := fun t => by
  rw [fin_N0 t, bigSep_W0, bigSep_W0]
  simp only [owns_whole]
  exact ob m c

/-! ## The launch -/

omit [FloatOps F] in
theorem mayWait_stage (c : Dev nD) (s : SemLoc sig) (O : CellTallies nD τ sig ℕ) (hO : O = owed0 c ∨ O = 0) :
    (levAts LN lvN : sProp 𝕄) ⊢ MayWait (c : Thread nD τ) s 0 O := by
  rcases hO with rfl | rfl
  · refine SiteBlocks.mayWait_of (by omega) c s _ fun g j h => ?_
    unfold owed0 at h
    rw [Pi.add_apply, Finsupp.add_apply, Pi.add_apply, Finsupp.add_apply] at h
    rcases Nat.add_pos_iff_pos_or_pos.mp h with h | h
    · rcases Nat.add_pos_iff_pos_or_pos.mp h with h | h
      · obtain ⟨hg, ⟨q, hq, rfl⟩ | ⟨q, hq, rfl⟩⟩ := Owed_pos h
        · rw [Finset.mem_range] at hq
          exact ⟨SiteBlocks.mem_L' hg (by omega), by omega⟩
        · rw [Finset.mem_Ico] at hq
          exact ⟨SiteBlocks.mem_L' hg (by omega), by omega⟩
      · obtain ⟨rfl, rfl⟩ := tallyAt_pos_eq h
        exact ⟨SiteBlocks.mem_L' rfl (by omega), by omega⟩
    · obtain ⟨rfl, rfl⟩ := tallyAt_pos_eq h
      exact ⟨SiteBlocks.mem_L' rfl (by omega), by omega⟩
  · rw [MayWait_zero]; iintro -; iempintro

theorem waits (c : Dev nD) : (levAts LN lvN : sProp 𝕄) ⊢ Pipeline.cellsWaits cfgs (dats m) 0 0 c :=
  Pipeline.cellsWaits_intro cfgs (dats m) 0 0 c fun w s t =>
    mayWait_stage c _ _ (by
      rcases t with ⟨_ | _, ht⟩
      · exact Or.inl rfl
      · exact Or.inr rfl)

theorem share_eq (c : Dev nD) (w : Fin cfg0.W) : (dats m 0 c).share w = fullShare := by unfold Dat.share; split <;> rfl

/-- What the launch hands to a device's kernel, besides the scoped buffers. -/
def XIn (c : Dev nD) : sProp 𝕄 :=
  iprop(LG' (xs m) (ws m) c ∗ (bigSep (Finset.Ico 0 248) (CC c) ∗ bigSep (Finset.Ico 0 248) (CR c) ∗ cred (tallyAt (cell c .bar) 1 2)) ∗ Lev F
    ∗ ∃ f : Buf (Elt F) (outM.view.loc (c : Thread nD τ)), outM.view.loc (c : Thread nD τ) ↦{fullShare} f)

theorem start_intro (c : Dev nD) :
    iprop(Pipeline.unscopedRestP Pipeline.Prefetch.none cfg0.spec c (fun b => m ((c : Thread nD τ).loc b)) ∗ levAts LN lvN
        ∗ Pipeline.launchCred owed0 c ∗ prngReg c (ρ c) ∗ LG' (xs m) (ws m) c)
      ⊢ |={Set.univ}=> iprop(XIn m c ∗ emp) := by
  have hc := creds (F := F) c
  have hu : (Pipeline.unscopedRestP Pipeline.Prefetch.none cfg0.spec c (fun b => m ((c : Thread nD τ).loc b)) : sProp 𝕄)
      ⊢ (outM.view.loc (c : Thread nD τ)) ↦{fullShare} m ((c : Thread nD τ).loc main_v1) := by
    rw [Pipeline.unscopedRestP_none]; exact Entails.of_eq (unscopedRest0_eq c fun b => m ((c : Thread nD τ).loc b))
  iintro ⟨Hu, Hlev, Hcr, -, HG⟩
  ihave Hc := hc $$ Hcr
  ihave Ho := hu $$ Hu
  imodintro
  unfold XIn Lev
  isplitl
  · isplitl [HG]; · iexact HG
    isplitl [Hc]; · iexact Hc
    isplitl [Hlev]; · iexact Hlev
    iexists _; iexact Ho
  · iempintro

theorem phi0_intro (c : Dev nD) :
    iprop(XIn m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (xs m) (ws m) c from rfl]
  unfold Φ₀ XIn
  iintro ⟨Hs, -, Hr⟩
  isplitl [Hs]; · iexact Hs
  iexact Hr

theorem phi1_exit (c : Dev nD) :
    (dats m 0 c).Φ (Fin.last cfg0.N) ⊢ iprop((Result (xs m) (ws m) c ∗ unscopedSems0 c) ∗ Pipeline.ownSems0 osem c ∗ Pipeline.scopedRest cfg0.spec c) :=
  BI.Entails.refl _

/-- The result on a device, block by block. -/
def Good (c : Dev nD) (s : MemSt nD τ sig (Elt F)) : Prop :=
  OutReads c (fun i r => outVal (xs m) (ws m) i r c) (s.mem (outM.view.loc (c : Thread nD τ)))
    ∧ ∀ sm : SemLoc sig, sm.isScoped .tc = false → s.sem ((c.tc : Thread nD τ), sm) = 0

theorem read_out (c : Dev nD) (s' : Phys nD τ sig (Elt F)) :
    iprop((Result (xs m) (ws m) c ∗ unscopedSems0 c) ∗ emp ∗ SI s') ⊢ |={Set.univ}=> iprop(⌜Good m c s'.mem⌝ ∗ SI s') := by
  have hu := Pipeline.unscopedSems0_read (X := (unscopedSems0 c : sProp 𝕄)) (c := c) fupd_intro s'
  unfold Result Good
  iintro ⟨⟨⟨%f, %hf, Hf⟩, Hu⟩, -, HSI⟩
  ihave %hm := (SI_pointsTo_agree (st := s') (ℓ := outM.view.loc (c : Thread nD τ)) (I := Finset.univ) (q := fullShare) (f := f)) $$ [HSI Hf]
  · isplitl [HSI] <;> iassumption
  have hfe : s'.mem.mem (outM.view.loc (c : Thread nD τ)) = f := funext fun i => hm i (Finset.mem_univ _)
  subst hfe
  imod hu $$ [Hu HSI] with H
  · isplitl [Hu] <;> iassumption
  icases H with ⟨%hs, HSI⟩
  imodintro
  isplitr; · ipureintro; exact ⟨hf, hs⟩
  iexact HSI

/-- From any memory with the counters at zero the program ends, the arguments unchanged on every device, every block
    of every device's result at what the rings left there, and every counter at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ OutReads c (fun i r => outVal (xs m) (ws m) i r c) (r.2.mem (outM.view.loc (c : Thread nD τ))))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := LN) (lv := lvN) (hL := fun _ h => if_neg h) (hwaits := waits m)
    (G := LG (xs m) (ws m)) (G' := LG' (xs m) (ws m)) (u₀ := u₀)
    (hu₀ := by
      unfold u₀
      iintro Hu
      ihave H := (ownU_pair _ _) $$ Hu
      icases H with ⟨HP, HX⟩
      imod (fund_ring (xs m) (ws m)) $$ HX with HG
      imodintro
      isplitl [HP] <;> iassumption)
    (hglob := glob (xs m) (ws m))
    (hA := fun _ _ => rfl) (hpf := fun _ k => k.elim0)
    (X := XIn m) (Y := fun c => iprop(Result (xs m) (ws m) c ∗ unscopedSems0 c)) (Z := fun _ => iprop(emp))
    (hX := start_intro m ρ) (hin := phi0_intro m) (hout := phi1_exit m)
    (QY := Good m) (hY := read_out m)
    (hQ := fun _ h hs => ⟨fun c => ⟨((h c).1 (0 : Fin 2)).trans ((dats (F := F) m 0 c).arrAt_in (0 : Fin 2) rfl _),
      ((h c).1 (1 : Fin 2)).trans ((dats (F := F) m 0 c).arrAt_in (1 : Fin 2) rfl _), (h c).2.2.1⟩, sem_eq_zero hs fun c => (h c).2.2.2⟩)

end Cert.RingKernelIdeal
-- ==== Proof.Value.lean ====
/-
# The values

At the ideal values a change of format is the identity, so what the rings carry round is the sum of the contributions
met so far. After 32 steps every device has contributed, whichever device started, and the 32 contributions of 256
contracted positions each are the reference's one contraction of 8192.
-/
module

public import proofs.«01_k».proof.Proof.KernelIdeal.Run
public import proofs.«01_k».proof.Proof.Gen.ReferenceIdeal.Run
public import Idealize.ShloMosaic.Lib.Pointwise
public import Idealize.ShloMosaic.Lib.Layout
public import Idealize.ShloMosaic.Lib.Pipeline.ValueKit.Acc

@[expose] public section

set_option maxRecDepth 16384
set_option backward.proofsInPublic true

noncomputable section

namespace Cert.RingValue

open Cert.KernelIdeal Cert.KernelIdeal.Gen Cert.RingPos Cert.RingKernelIdeal
open Idealize.ShloMosaic Idealize.ShloMosaic.TcCoe Idealize.SL.Sem

/-! ## Round a ring -/

section Ring

variable (X : Dev nD → (cc0_stg0_0 : Ref sig .tc).ty.Contents (Elt Ideal)) (W : Dev nD → (cc0_stg1_0 : Ref sig .tc).ty.Contents (Elt Ideal))

/-- The contribution of a device to an element, as an extended real. -/
def con (s : Fin 32) (i : Fin 4) (y : S256x1024.Idx) (d : Dev 32) : EReal := part X W d s i y

theorem rsSent_apply (i : Fin 4) (y : S256x1024.Idx) : ∀ (k : ℕ) (c : Dev 32),
    (rsSent X W i k c y : EReal) = ∑ j ∈ Finset.range (k + 1), con X W (seg i c k) i y (up i j c)
  | 0, c => by
    rw [Finset.sum_range_one, up_zero]; rfl
  | k + 1, c => by
    have h := rsSent_apply i y k (ups i c)
    show (rsSent X W i k (ups i c) y : EReal) + con X W (seg i c (k + 1)) i y c = _
    rw [h, Finset.sum_range_succ' _ (k + 1), up_zero, seg_up, Nat.add_comm 1 k]
    refine congrArg (· + _) (Finset.sum_congr rfl fun j _ => ?_)
    rw [up_up, Nat.add_comm 1 j]

/-- The 32 steps upstream of a device meet every device once. -/
theorem sum_ring (i : Fin 4) (c : Dev 32) (g : Dev 32 → EReal) : ∑ j ∈ Finset.range 32, g (up i j c) = ∑ d, g d := by
  rw [← Fin.sum_univ_eq_sum_range (fun j => g (up i j c)) 32]
  refine Function.Bijective.sum_comp (e := fun j : Fin 32 => up i j.val c) (Finite.injective_iff_bijective.1 fun j k h => ?_) g
  have h := congrArg pos h
  simp only [pos_up] at h
  exact Fin.ext (seg_inj i c j.isLt k.isLt h)

/-- The finished element: every device's contribution, and nothing below zero. -/
def done (s : Fin 32) (i : Fin 4) (y : S256x1024.Idx) : EReal := max (∑ d, con X W s i y d) 0

theorem fin_apply (i : Fin 4) (c : Dev 32) (y : S256x1024.Idx) : (fin X W c i y : EReal) = done X W (seg i c 31) i y := by
  have h := rsSent_apply X W i y 30 (ups i c)
  have hz : (broadcast S256x1024 (Scalar.ofBits (F := Ideal) .f32 0x00000000#32) y : EReal) = 0 := by pointwise
  show max ((rsSent X W i 30 (ups i c) y : EReal) + con X W (seg i c 31) i y c) (broadcast S256x1024 (Scalar.ofBits (F := Ideal) .f32 0x00000000#32) y : EReal) = _
  rw [h, hz, done, ← sum_ring i c, Finset.sum_range_succ' _ 31, up_zero, seg_up]
  refine congrArg (fun t => max (t + _) 0) (Finset.sum_congr rfl fun j _ => ?_)
  rw [up_up, Nat.add_comm 1 j]

theorem agSent_apply (i : Fin 4) (y : S256x1024.Idx) : ∀ (k : ℕ) (c : Dev 32), (agSent X W i k c y : EReal) = done X W (seg i c (31 + k)) i y
  | 0, c => fin_apply X W i c y
  | k + 1, c => by
    have h := agSent_apply i y k (ups i c)
    rw [seg_up] at h
    refine (show (agSent X W i (k + 1) c y : EReal) = _ from h).trans ?_
    rw [show 1 + (31 + k) = 31 + (k + 1) by omega]

theorem outVal_apply (i : Fin 4) (y : S256x1024.Idx) : ∀ (r : ℕ) (c : Dev 32), (outVal X W i r c y : EReal) = done X W (seg i c (31 + r)) i y
  | 0, c => fin_apply X W i c y
  | r + 1, c => by
    have h := agSent_apply X W i y r (ups i c)
    rw [seg_up] at h
    refine (show (outVal X W i (r + 1) c y : EReal) = _ from h).trans ?_
    rw [show 1 + (31 + r) = 31 + (r + 1) by omega]

/-! ## A contribution -/

theorem xrow_apply (c : Dev nD) (s : Fin 32) (p k : Fin 256) :
    xrow X c s (ix2 p k) = X c (ix2 ⟨256 * s.val + p.val, by omega⟩ k) := by
  show X c _ = X c _
  refine congrArg (X c) (funext fun a => Fin.ext ?_)
  match a with
  | 0 => show 256 * s.val + 1 * p.val = _; rw [Nat.one_mul]; rfl
  | 1 => show 0 + 1 * k.val = _; rw [Nat.one_mul, Nat.zero_add]; rfl
theorem wcol_apply (c : Dev nD) (i : Fin 4) (k : Fin 256) (q : Fin 1024) :
    wcol W c i (ix2 k q) = W c (ix2 k ⟨1024 * i.val + q.val, by omega⟩) := by
  show W c _ = W c _
  refine congrArg (W c) (funext fun a => Fin.ext ?_)
  match a with
  | 0 => show 0 + 1 * k.val = _; rw [Nat.one_mul, Nat.zero_add]; rfl
  | 1 => show 1024 * i.val + 1 * q.val = _; rw [Nat.one_mul]; rfl

theorem pay_apply (u : Vec Ideal S256x256 .bf16) (v : Vec Ideal S256x1024 .bf16) (p : Fin 256) (q : Fin 1024) :
    (k0_pay1 u v (ix2 p q) : EReal) = ∑ k : Fin 256, (u (ix2 p k) : EReal) * (v (ix2 k q) : EReal) := by
  pointwise [k0_pay1]

/-- An element of a device's block of an argument, as an extended real. -/
def xE (d : Dev nD) (j : S8192x256.Idx) : EReal := X d j
def wE (d : Dev nD) (j : S256x4096.Idx) : EReal := W d j

theorem con_apply (s : Fin 32) (i : Fin 4) (p : Fin 256) (q : Fin 1024) (d : Dev nD) :
    con X W s i (ix2 p q) d
      = ∑ k : Fin 256, xE X d (ix2 ⟨256 * s.val + p.val, by omega⟩ k) * wE W d (ix2 k ⟨1024 * i.val + q.val, by omega⟩) := by
  refine (pay_apply (xrow X d s) (wcol W d i) p q).trans (Finset.sum_congr rfl fun k _ => ?_)
  rw [xrow_apply, wcol_apply]; rfl

end Ring

/-! ## The whole arrays -/

section Whole

variable (x : Cert.ReferenceIdeal.S8192x8192.Idx → Elt Ideal .bf16) (w : S8192x4096.Idx → Elt Ideal .bf16)

/-- The reference's result of the two whole arrays, as its run leaves it. -/
def ref : S8192x4096.Idx → Elt Ideal .f32 :=
  maximumf (extf .f32 (truncf .bf16 (Host.dotGeneral (φ₁ := .bf16) (φ₂ := .bf16) Cert.ReferenceIdeal.dot_S8192x8192_S8192x4096_S8192x4096_1_0_0_1_n_n none x w)
    Cert.ReferenceIdeal.Gen.bitsLt_bf16_f32) Cert.ReferenceIdeal.Gen.bitsLt_bf16_f32)
    (broadcastInDim Cert.ReferenceIdeal.S8192x4096 ![] Cert.ReferenceIdeal.Gen.bcast_S_S8192x4096 (constant (F := Ideal) Cert.ReferenceIdeal.S_ .f32 0x00000000#32))

def xR (j : Cert.ReferenceIdeal.S8192x8192.Idx) : EReal := x j
def wR (j : S8192x4096.Idx) : EReal := w j

theorem ref_apply (r : Fin 8192) (q : Fin 4096) :
    (ref x w (ix2 r q) : EReal) = max (∑ k : Fin 8192, xR x (ix2 r k) * wR w (ix2 k q)) 0 := by
  pointwise [ref]
  rfl

variable (X : Dev nD → (cc0_stg0_0 : Ref sig .tc).ty.Contents (Elt Ideal)) (W : Dev nD → (cc0_stg1_0 : Ref sig .tc).ty.Contents (Elt Ideal))
  (hX : ∀ d : Dev nD, X d = Layout.block ⟨2, ![8192, 256]⟩ ⟨2, ![8192, 8192]⟩ 1 32 d x)
  (hW : ∀ d : Dev nD, W d = Layout.block ⟨2, ![256, 4096]⟩ ⟨2, ![8192, 4096]⟩ 0 32 d w)

include hX in
theorem xE_block (d : Dev nD) (r : Fin 8192) (k : Fin 256) (h : d.val * 256 + k.val < 8192) :
    xE X d (ix2 r k) = xR x (ix2 r ⟨d.val * 256 + k.val, h⟩) := by
  unfold xE xR
  rw [hX]
  refine congrArg x (funext fun a => Fin.ext ?_)
  match a with
  | 0 => rfl
  | 1 => rfl

include hW in
theorem wE_block (d : Dev nD) (k : Fin 256) (q : Fin 4096) (h : d.val * 256 + k.val < 8192) :
    wE W d (ix2 k q) = wR w (ix2 ⟨d.val * 256 + k.val, h⟩ q) := by
  unfold wE wR
  rw [hW]
  refine congrArg w (funext fun a => Fin.ext ?_)
  match a with
  | 0 => rfl
  | 1 => rfl

include hX hW in
/-- The finished block is the reference's. -/
theorem done_eq (s : Fin 32) (i : Fin 4) (p : Fin 256) (q : Fin 1024) :
    done X W s i (ix2 p q) = (ref x w (ix2 ⟨256 * s.val + p.val, by omega⟩ ⟨1024 * i.val + q.val, by omega⟩) : EReal) := by
  rw [ref_apply, done]
  refine congrArg (max · 0) ?_
  rw [← Fin.sum_mul_add_fin 32 256 (fun k : Fin 8192 => xR x (ix2 ⟨256 * s.val + p.val, by omega⟩ k) * wR w (ix2 k ⟨1024 * i.val + q.val, by omega⟩)) rfl]
  refine Finset.sum_congr rfl fun d _ => ?_
  rw [con_apply]
  refine Finset.sum_congr rfl fun k _ => ?_
  rw [xE_block x X hX d _ k (by have := d.isLt; have := k.isLt; omega), wE_block w W hW d k _ (by have := d.isLt; have := k.isLt; omega)]

include hX hW in
/-- A result all of whose blocks are the finished ones is the reference's. -/
theorem out_eq (c : Dev nD) (f : Buf (Elt Ideal) (outM.view.loc (c : Thread nD τ))) (hf : OutReads c (fun i r => outVal X W i r c) f) :
    f = ref x w := by
  funext y
  obtain ⟨r, q, rfl⟩ : ∃ (r : Fin 8192) (q : Fin 4096), y = ix2 r q := ⟨y 0, y 1, eq_ix2 y⟩
  have hi : q.val / 1024 < 4 := by omega
  have hs : r.val / 256 < 32 := by omega
  obtain ⟨k, hk, h⟩ := seg_surj ⟨q.val / 1024, hi⟩ (up ⟨q.val / 1024, hi⟩ 31 c) ⟨r.val / 256, hs⟩
  rw [seg_up] at h
  have hb := hf ⟨q.val / 1024, hi⟩ k hk
  rw [h] at hb
  have hz := congrFun hb (ix2 ⟨r.val % 256, Nat.mod_lt _ (by decide)⟩ ⟨q.val % 1024, Nat.mod_lt _ (by decide)⟩)
  have ho := outVal_apply X W ⟨q.val / 1024, hi⟩ (ix2 ⟨r.val % 256, Nat.mod_lt _ (by decide)⟩ ⟨q.val % 1024, Nat.mod_lt _ (by decide)⟩) k c
  rw [h, done_eq x w X W hX hW] at ho
  have hr : (outRead c ⟨r.val / 256, hs⟩ ⟨q.val / 1024, hi⟩ f (ix2 ⟨r.val % 256, Nat.mod_lt _ (by decide)⟩ ⟨q.val % 1024, Nat.mod_lt _ (by decide)⟩))
      = f (ix2 r q) := by
    refine show f _ = f _ from congrArg f (funext fun a => Fin.ext ?_)
    match a with
    | 0 => show 256 * (r.val / 256) + 1 * (r.val % 256) = r.val; omega
    | 1 => show 1024 * (q.val / 1024) + 1 * (q.val % 1024) = q.val; omega
  have hj : (ix2 (⟨256 * (r.val / 256) + r.val % 256, by omega⟩ : Fin 8192) (⟨1024 * (q.val / 1024) + q.val % 1024, by omega⟩ : Fin 4096) : S8192x4096.Idx) = ix2 r q := by
    congr 1
    · exact Fin.ext (Nat.div_add_mod _ _)
    · exact Fin.ext (Nat.div_add_mod _ _)
  exact hr.symm.trans (hz.trans (ho.trans (congrArg (ref x w) hj)))

end Whole

/-! ## The arguments as the windows fetch them -/

theorem xs_eq (m : (ℓ : Loc nD τ sig) → Buf (Elt Ideal) ℓ) (c : Dev nD) : xs m c = m ((c : Thread nD τ).loc main_arg0) := by
  funext y
  refine show m ((c : Thread nD τ).loc main_arg0) _ = m ((c : Thread nD τ).loc main_arg0) y from congrArg _ (funext fun a => Fin.ext ?_)
  match a with
  | 0 => show 0 + 1 * (y 0).val = (y 0).val; omega
  | 1 => show 0 + 1 * (y 1).val = (y 1).val; omega
theorem ws_eq (m : (ℓ : Loc nD τ sig) → Buf (Elt Ideal) ℓ) (c : Dev nD) : ws m c = m ((c : Thread nD τ).loc main_arg1) := by
  funext y
  refine show m ((c : Thread nD τ).loc main_arg1) _ = m ((c : Thread nD τ).loc main_arg1) y from congrArg _ (funext fun a => Fin.ext ?_)
  match a with
  | 0 => show 0 + 1 * (y 0).val = (y 0).val; omega
  | 1 => show 0 + 1 * (y 1).val = (y 1).val; omega

/-- The kernel's run from memories that hold the blocks of the whole arrays: every device ends with the reference's
result. -/
theorem run_value (m : (ℓ : Loc nD τ sig) → Buf (Elt Ideal) ℓ) (g : Dev nD → PrngReg)
    (x : Cert.ReferenceIdeal.S8192x8192.Idx → Elt Ideal .bf16) (w : S8192x4096.Idx → Elt Ideal .bf16)
    (hX : ∀ c : Dev nD, m ((c : Thread nD τ).loc main_arg0) = Layout.block ⟨2, ![8192, 256]⟩ ⟨2, ![8192, 8192]⟩ 1 32 c x)
    (hW : ∀ c : Dev nD, m ((c : Thread nD τ).loc main_arg1) = Layout.block ⟨2, ![256, 4096]⟩ ⟨2, ![8192, 4096]⟩ 0 32 c w) :
    θ_run (defs (F := Ideal)) (onTc (τ := τ) (main (F := Ideal))) ⟨m, fun _ => 0, g⟩ (fun r => ∀ c : Dev nD,
      r.2.mem ((c : Thread nD τ).loc main_v1) = ref x w
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun _ h c => ⟨out_eq x w (xs m) (ws m) (fun d => (xs_eq m d).trans (hX d)) (fun d => (ws_eq m d).trans (hW d)) c _ (h.1 c).2.2,
    (h.1 c).1, (h.1 c).2.1⟩) (run_main m g)

end Cert.RingValue
-- ==== Proof.lean ====
/-
# The claims

The two kernels' frames are the run proved once over any floats; the reference's is its generated run. From blocks of the
same arrays the ideal kernel ends, on every device, with the reference's result.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => (θ_run _ _ _).mono (fun _ h => ⟨fun c => ⟨(h.1 c).1, (h.1 c).2.1⟩, h.2⟩) (Cert.RingKernel.run_main m g),
    fun m g _ => (θ_run _ _ _).mono (fun _ h => ⟨fun c => ⟨(h.1 c).1, (h.1 c).2.1⟩, h.2⟩) (Cert.RingKernelIdeal.run_main m g),
    fun m g _ => (θ_run _ _ _).mono (fun r h => ⟨fun c => ⟨(h c).2.1, (h c).2.2⟩, sem_eq_zero_of_no_sems (by decide) r.2⟩)
      (Cert.ReferenceIdeal.Value.run m g),
    trivial,
    fun m g m' g' _ hb => ⟨Cert.RingValue.ref _ _, Cert.RingValue.run_value m g _ _ (fun c => (hb c).1) (fun c => (hb c).2),
      (θ_run _ _ _).mono (fun _ h => h 0) (Cert.ReferenceIdeal.Value.run m' g')⟩⟩

end Cert.Proof

end
